-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4000000 : Shape := ⟨1, ![4000000]⟩
abbrev S16 : Shape := ⟨1, ![16]⟩
abbrev S15 : Shape := ⟨1, ![15]⟩
abbrev S16x1 : Shape := ⟨2, ![16, 1]⟩
abbrev S15x1 : Shape := ⟨2, ![15, 1]⟩
abbrev S32x16384 : Shape := ⟨2, ![32, 16384]⟩
abbrev S25016 : Shape := ⟨1, ![25016]⟩
abbrev S16384 : Shape := ⟨1, ![16384]⟩
abbrev S_ : Shape := ⟨0, ![]⟩
abbrev S25000 : Shape := ⟨1, ![25000]⟩
abbrev S1x16384 : Shape := ⟨2, ![1, 16384]⟩
abbrev S512x1024 : Shape := ⟨2, ![512, 1024]⟩
abbrev S1x1 : Shape := ⟨2, ![1, 1]⟩
abbrev S1024 : Shape := ⟨1, ![1024]⟩
abbrev S1x1024 : Shape := ⟨2, ![1, 1024]⟩
abbrev S1024x1024 : Shape := ⟨2, ![1024, 1024]⟩
abbrev S16x1024 : Shape := ⟨2, ![16, 1024]⟩
abbrev S1x15x1 : Shape := ⟨3, ![1, 15, 1]⟩
abbrev S1 : Shape := ⟨1, ![1]⟩
abbrev S1x1x1 : Shape := ⟨3, ![1, 1, 1]⟩

abbrev nBuf : Table → Nat
  | .hbm => 14
  | .local .tc .vmem => 6
  | .local .scVector .vmem => 5
  | _ => 0

abbrev bufTy : (tb : Table) → Fin (nBuf tb) → BufTy
  | .hbm, ⟨0, _⟩ => ⟨S4000000, .f32⟩
  | .hbm, ⟨1, _⟩ => ⟨S4000000, .f32⟩
  | .hbm, ⟨2, _⟩ => ⟨S16, .f32⟩
  | .hbm, ⟨3, _⟩ => ⟨S15, .f32⟩
  | .hbm, ⟨4, _⟩ => ⟨S16x1, .f32⟩
  | .hbm, ⟨5, _⟩ => ⟨S15x1, .f32⟩
  | .hbm, ⟨6, _⟩ => ⟨S32x16384, .f32⟩
  | .hbm, ⟨7, _⟩ => ⟨S32x16384, .f32⟩
  | .hbm, ⟨8, _⟩ => ⟨S32x16384, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1x1, .f32⟩
  | .hbm, ⟨13, _⟩ => ⟨S_, .f32⟩
  | .local .tc .vmem, ⟨0, _⟩ => ⟨S512x1024, .f32⟩
  | .local .tc .vmem, ⟨1, _⟩ => ⟨S512x1024, .f32⟩
  | .local .tc .vmem, ⟨2, _⟩ => ⟨S512x1024, .f32⟩
  | .local .tc .vmem, ⟨3, _⟩ => ⟨S16x1, .f32⟩
  | .local .tc .vmem, ⟨4, _⟩ => ⟨S15x1, .f32⟩
  | .local .tc .vmem, ⟨5, _⟩ => ⟨S1x1, .f32⟩
  | .local .scVector .vmem, ⟨0, _⟩ => ⟨S25016, .f32⟩
  | .local .scVector .vmem, ⟨1, _⟩ => ⟨S25016, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | _, _ => ⟨S4000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0_scv : Ref sig .scVector := ⟨.hbm, 0, rfl⟩
abbrev main_arg1_scv : Ref sig .scVector := ⟨.hbm, 1, rfl⟩
abbrev main_v2_0_scv : Ref sig .scVector := ⟨.hbm, 6, rfl⟩
abbrev main_v2_1_scv : Ref sig .scVector := ⟨.hbm, 7, rfl⟩
abbrev main_v2_2_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v4 : BitVec 32 := Scalar.addi c0_i32_0 c1024_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32_8 : BitVec 32 := 16#32
  let v18 : BitVec 32 := Scalar.muli arg12 c16_i32_8
  let v19 : Index := Scalar.indexCast v18
  ![v19.toNat]
@[reducible] def k0_t2_loop : Scf.Loop 32 :=
  let c0_i32_5 : BitVec 32 := 0#32
  let c5_i32 : BitVec 32 := 5#32
  let v16 : BitVec 32 := Scalar.addi c0_i32_5 c5_i32
  let c1_i32_6 : BitVec 32 := 1#32
  ⟨c0_i32_5, v16, c1_i32_6⟩
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c125000_i32 : BitVec 32 := 125000#32
  let v2 : BitVec 32 := Scalar.muli v1 c125000_i32
  let c0_i32_5 : BitVec 32 := 0#32
  let c1_i32_6 : BitVec 32 := 1#32
  let arg12 : BitVec 32 := Scf.iv c0_i32_5 c1_i32_6 k0_t2
  let c25000_i32 : BitVec 32 := 25000#32
  let v18 : BitVec 32 := Scalar.muli arg12 c25000_i32
  let v19 : BitVec 32 := Scalar.addi v2 v18
  ![v19.toNat]
@[reducible] def k0_t3_loop : Scf.Loop 32 :=
  let c0_i32_9 : BitVec 32 := 0#32
  let c1562_i32 : BitVec 32 := 1562#32
  let v20 : BitVec 32 := Scalar.addi c0_i32_9 c1562_i32
  let c1_i32_10 : BitVec 32 := 1#32
  ⟨c0_i32_9, v20, c1_i32_10⟩
def k0_off3 (k0_t3 : Fin k0_t3_loop.trips) : Fin 1 → Nat :=
  let c0_i32_9 : BitVec 32 := 0#32
  let c1_i32_10 : BitVec 32 := 1#32
  let arg14 : BitVec 32 := Scf.iv c0_i32_9 c1_i32_10 k0_t3
  let c16_i32_16 : BitVec 32 := 16#32
  let v32 : BitVec 32 := Scalar.muli arg14 c16_i32_16
  let v33 : Index := Scalar.indexCast v32
  ![v33.toNat]

def k0_chk1 (v45 : IVec S16 32) : Prop :=
  (∀ a x, ((![v45] : Fin 1 → IVec S16 32) a x).toNat < S16384.size a) ∧
  (∀ a x, ((![v45] : Fin 1 → IVec S16 32) a x).toNat < S16384.size a) ∧
  (∀ a x, ((![v45] : Fin 1 → IVec S16 32) a x).toNat < S16384.size a)
theorem k0_idx1_inb : ∀ (v45 : IVec S16 32) (k0_hw1 : k0_chk1 v45), ∀ a x, ((![v45] : Fin 1 → IVec S16 32) a x).toNat < S16384.size a := fun v45 k0_hw1 => k0_hw1.1
theorem k0_idx2_inb : ∀ (v45 : IVec S16 32) (k0_hw1 : k0_chk1 v45), ∀ a x, ((![v45] : Fin 1 → IVec S16 32) a x).toNat < S16384.size a := fun v45 k0_hw1 => k0_hw1.2.1
theorem k0_idx3_inb : ∀ (v45 : IVec S16 32) (k0_hw1 : k0_chk1 v45), ∀ a x, ((![v45] : Fin 1 → IVec S16 32) a x).toNat < S16384.size a := fun v45 k0_hw1 => k0_hw1.2.2

def k0_chk2 (v31 : IVec S16 32) : Prop :=
  (∀ a x, ((![v31] : Fin 1 → IVec S16 32) a x).toNat < S16384.size a) ∧
  (∀ a x, ((![v31] : Fin 1 → IVec S16 32) a x).toNat < S16384.size a) ∧
  (∀ a x, ((![v31] : Fin 1 → IVec S16 32) a x).toNat < S16384.size a)
theorem k0_idx4_inb : ∀ (v31 : IVec S16 32) (k0_hw2 : k0_chk2 v31), ∀ a x, ((![v31] : Fin 1 → IVec S16 32) a x).toNat < S16384.size a := fun v31 k0_hw2 => k0_hw2.1
theorem k0_idx5_inb : ∀ (v31 : IVec S16 32) (k0_hw2 : k0_chk2 v31), ∀ a x, ((![v31] : Fin 1 → IVec S16 32) a x).toNat < S16384.size a := fun v31 k0_hw2 => k0_hw2.2.1
theorem k0_idx6_inb : ∀ (v31 : IVec S16 32) (k0_hw2 : k0_chk2 v31), ∀ a x, ((![v31] : Fin 1 → IVec S16 32) a x).toNat < S16384.size a := fun v31 k0_hw2 => k0_hw2.2.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r2 : BitVec 32 := 0#32
  ![v1.toNat, 0]
abbrev grid1 : Pipeline.Grid := .none

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S15x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4000000 : Shape := ⟨1, ![4000000]⟩
abbrev S_ : Shape := ⟨0, ![]⟩
abbrev S1024 : Shape := ⟨1, ![1024]⟩
abbrev S4000000x1 : Shape := ⟨2, ![4000000, 1]⟩
abbrev S1 : Shape := ⟨1, ![1]⟩
abbrev S1x1 : Shape := ⟨2, ![1, 1]⟩
abbrev S266666 : Shape := ⟨1, ![266666]⟩
abbrev S266667 : Shape := ⟨1, ![266667]⟩
abbrev S15 : Shape := ⟨1, ![15]⟩

abbrev nBuf : Space → Nat
  | .hbm => 349
  | .vmem => 0
  | .smem => 0
  | _ => 0

abbrev hbmTy0_0 (i : Nat) : BufTy := match i % 128 with
  | 0 => ⟨S4000000, .f32⟩
  | 1 => ⟨S4000000, .f32⟩
  | 2 => ⟨S_, .f32⟩
  | 3 => ⟨S4000000, .f32⟩
  | 4 => ⟨S4000000, .f32⟩
  | 5 => ⟨S4000000, .i32⟩
  | 6 => ⟨S_, .i32⟩
  | 7 => ⟨S_, .i32⟩
  | 8 => ⟨S_, .i32⟩
  | 9 => ⟨S4000000, .i32⟩
  | 10 => ⟨S4000000, .i32⟩
  | 11 => ⟨S_, .i32⟩
  | 12 => ⟨S4000000, .i32⟩
  | 13 => ⟨S4000000, .i32⟩
  | 14 => ⟨S_, .f32⟩
  | 15 => ⟨S1024, .f32⟩
  | 16 => ⟨S4000000x1, .i32⟩
  | 17 => ⟨S1024, .f32⟩
  | 18 => ⟨S_, .f32⟩
  | 19 => ⟨S4000000, .f32⟩
  | 20 => ⟨S_, .f32⟩
  | 21 => ⟨S1024, .f32⟩
  | 22 => ⟨S4000000x1, .i32⟩
  | 23 => ⟨S1024, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S4000000x1, .i32⟩
  | 32 => ⟨S4000000, .f32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S4000000x1, .i32⟩
  | 41 => ⟨S4000000, .f32⟩
  | 42 => ⟨S4000000, .f32⟩
  | 43 => ⟨S_, .f32⟩
  | 44 => ⟨S4000000, .f32⟩
  | 45 => ⟨S4000000, .f32⟩
  | 46 => ⟨S4000000, .i32⟩
  | 47 => ⟨S_, .i32⟩
  | 48 => ⟨S_, .i32⟩
  | 49 => ⟨S_, .i32⟩
  | 50 => ⟨S4000000, .i32⟩
  | 51 => ⟨S4000000, .i32⟩
  | 52 => ⟨S_, .i32⟩
  | 53 => ⟨S4000000, .i32⟩
  | 54 => ⟨S4000000, .i32⟩
  | 55 => ⟨S_, .f32⟩
  | 56 => ⟨S1024, .f32⟩
  | 57 => ⟨S4000000x1, .i32⟩
  | 58 => ⟨S1024, .f32⟩
  | 59 => ⟨S_, .f32⟩
  | 60 => ⟨S4000000, .f32⟩
  | 61 => ⟨S_, .f32⟩
  | 62 => ⟨S1024, .f32⟩
  | 63 => ⟨S4000000x1, .i32⟩
  | 64 => ⟨S1024, .f32⟩
  | 65 => ⟨S_, .i32⟩
  | 66 => ⟨S4000000, .i32⟩
  | 67 => ⟨S4000000, .i1⟩
  | 68 => ⟨S_, .i32⟩
  | 69 => ⟨S4000000, .i32⟩
  | 70 => ⟨S4000000, .i32⟩
  | 71 => ⟨S4000000, .i32⟩
  | 72 => ⟨S4000000x1, .i32⟩
  | 73 => ⟨S4000000, .f32⟩
  | 74 => ⟨S_, .i32⟩
  | 75 => ⟨S4000000, .i32⟩
  | 76 => ⟨S4000000, .i1⟩
  | 77 => ⟨S_, .i32⟩
  | 78 => ⟨S4000000, .i32⟩
  | 79 => ⟨S4000000, .i32⟩
  | 80 => ⟨S4000000, .i32⟩
  | 81 => ⟨S4000000x1, .i32⟩
  | 82 => ⟨S4000000, .f32⟩
  | 83 => ⟨S4000000, .f32⟩
  | 84 => ⟨S4000000, .i32⟩
  | 85 => ⟨S4000000, .f32⟩
  | 86 => ⟨S4000000, .i32⟩
  | 87 => ⟨S_, .i32⟩
  | 88 => ⟨S4000000, .i32⟩
  | 89 => ⟨S4000000, .i1⟩
  | 90 => ⟨S_, .i32⟩
  | 91 => ⟨S4000000, .i32⟩
  | 92 => ⟨S4000000, .i32⟩
  | 93 => ⟨S4000000, .i32⟩
  | 94 => ⟨S4000000x1, .i32⟩
  | 95 => ⟨S1, .i32⟩
  | 96 => ⟨S_, .i32⟩
  | 97 => ⟨S4000000x1, .i32⟩
  | 98 => ⟨S4000000x1, .i1⟩
  | 99 => ⟨S1x1, .i32⟩
  | 100 => ⟨S4000000x1, .i32⟩
  | 101 => ⟨S4000000x1, .i1⟩
  | 102 => ⟨S4000000x1, .i1⟩
  | 103 => ⟨S_, .i1⟩
  | 104 => ⟨S4000000, .i1⟩
  | 105 => ⟨S4000000, .f32⟩
  | 106 => ⟨S_, .f32⟩
  | 107 => ⟨S4000000, .f32⟩
  | 108 => ⟨S4000000, .f32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S1, .i32⟩
  | 118 => ⟨S_, .i32⟩
  | 119 => ⟨S4000000x1, .i32⟩
  | 120 => ⟨S4000000x1, .i1⟩
  | 121 => ⟨S1x1, .i32⟩
  | 122 => ⟨S4000000x1, .i32⟩
  | 123 => ⟨S4000000x1, .i1⟩
  | 124 => ⟨S4000000x1, .i1⟩
  | 125 => ⟨S_, .i1⟩
  | 126 => ⟨S4000000, .i1⟩
  | 127 => ⟨S4000000, .f32⟩
  | _ => ⟨S4000000, .f32⟩

abbrev hbmTy0_1 (i : Nat) : BufTy := match i % 128 with
  | 0 => ⟨S_, .f32⟩
  | 1 => ⟨S4000000, .f32⟩
  | 2 => ⟨S4000000, .f32⟩
  | 3 => ⟨S266666, .f32⟩
  | 4 => ⟨S_, .f32⟩
  | 5 => ⟨S_, .f32⟩
  | 6 => ⟨S_, .f32⟩
  | 7 => ⟨S_, .f32⟩
  | 8 => ⟨S266666, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S266667, .f32⟩
  | 16 => ⟨S_, .f32⟩
  | 17 => ⟨S_, .f32⟩
  | 18 => ⟨S_, .f32⟩
  | 19 => ⟨S_, .f32⟩
  | 20 => ⟨S266667, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S266667, .f32⟩
  | 28 => ⟨S_, .f32⟩
  | 29 => ⟨S_, .f32⟩
  | 30 => ⟨S_, .f32⟩
  | 31 => ⟨S_, .f32⟩
  | 32 => ⟨S266667, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S266666, .f32⟩
  | 40 => ⟨S_, .f32⟩
  | 41 => ⟨S_, .f32⟩
  | 42 => ⟨S_, .f32⟩
  | 43 => ⟨S_, .f32⟩
  | 44 => ⟨S266666, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S266667, .f32⟩
  | 52 => ⟨S_, .f32⟩
  | 53 => ⟨S_, .f32⟩
  | 54 => ⟨S_, .f32⟩
  | 55 => ⟨S_, .f32⟩
  | 56 => ⟨S266667, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S266667, .f32⟩
  | 64 => ⟨S_, .f32⟩
  | 65 => ⟨S_, .f32⟩
  | 66 => ⟨S_, .f32⟩
  | 67 => ⟨S_, .f32⟩
  | 68 => ⟨S266667, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S266666, .f32⟩
  | 76 => ⟨S_, .f32⟩
  | 77 => ⟨S_, .f32⟩
  | 78 => ⟨S_, .f32⟩
  | 79 => ⟨S_, .f32⟩
  | 80 => ⟨S266666, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S266667, .f32⟩
  | 88 => ⟨S_, .f32⟩
  | 89 => ⟨S_, .f32⟩
  | 90 => ⟨S_, .f32⟩
  | 91 => ⟨S_, .f32⟩
  | 92 => ⟨S266667, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S266667, .f32⟩
  | 100 => ⟨S_, .f32⟩
  | 101 => ⟨S_, .f32⟩
  | 102 => ⟨S_, .f32⟩
  | 103 => ⟨S_, .f32⟩
  | 104 => ⟨S266667, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S266666, .f32⟩
  | 112 => ⟨S_, .f32⟩
  | 113 => ⟨S_, .f32⟩
  | 114 => ⟨S_, .f32⟩
  | 115 => ⟨S_, .f32⟩
  | 116 => ⟨S266666, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S266667, .f32⟩
  | 124 => ⟨S_, .f32⟩
  | 125 => ⟨S_, .f32⟩
  | 126 => ⟨S_, .f32⟩
  | 127 => ⟨S_, .f32⟩
  | _ => ⟨S4000000, .f32⟩

abbrev hbmTy0_2 (i : Nat) : BufTy := match i % 128 with
  | 0 => ⟨S266667, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S266667, .f32⟩
  | 8 => ⟨S_, .f32⟩
  | 9 => ⟨S_, .f32⟩
  | 10 => ⟨S_, .f32⟩
  | 11 => ⟨S_, .f32⟩
  | 12 => ⟨S266667, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S266666, .f32⟩
  | 20 => ⟨S_, .f32⟩
  | 21 => ⟨S_, .f32⟩
  | 22 => ⟨S_, .f32⟩
  | 23 => ⟨S_, .f32⟩
  | 24 => ⟨S266666, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S266667, .f32⟩
  | 32 => ⟨S_, .f32⟩
  | 33 => ⟨S_, .f32⟩
  | 34 => ⟨S_, .f32⟩
  | 35 => ⟨S_, .f32⟩
  | 36 => ⟨S266667, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S266667, .f32⟩
  | 44 => ⟨S_, .f32⟩
  | 45 => ⟨S_, .f32⟩
  | 46 => ⟨S_, .f32⟩
  | 47 => ⟨S_, .f32⟩
  | 48 => ⟨S266667, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S1, .f32⟩
  | 64 => ⟨S1, .f32⟩
  | 65 => ⟨S1, .f32⟩
  | 66 => ⟨S1, .f32⟩
  | 67 => ⟨S1, .f32⟩
  | 68 => ⟨S1, .f32⟩
  | 69 => ⟨S1, .f32⟩
  | 70 => ⟨S15, .f32⟩
  | 71 => ⟨S1, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S1, .f32⟩
  | 82 => ⟨S1, .f32⟩
  | 83 => ⟨S1, .f32⟩
  | 84 => ⟨S1, .f32⟩
  | 85 => ⟨S1, .f32⟩
  | 86 => ⟨S15, .f32⟩
  | 87 => ⟨S15, .f32⟩
  | 88 => ⟨S15, .f32⟩
  | 89 => ⟨S_, .f32⟩
  | 90 => ⟨S_, .f32⟩
  | 91 => ⟨S_, .f32⟩
  | 92 => ⟨S_, .f32⟩
  | _ => ⟨S4000000, .f32⟩

abbrev hbmTy (i : Nat) : BufTy := match i / 128 with
  | 0 => hbmTy0_0 i
  | 1 => hbmTy0_1 i
  | 2 => hbmTy0_2 i
  | _ => ⟨S4000000, .f32⟩

abbrev bufTy : (tb : Table) → Fin (tcTables nBuf tb) → BufTy
  | .hbm, ⟨i, _⟩ => hbmTy i
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_c_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_14 : Ref sig .tc := ⟨.hbm, 65, rfl⟩
abbrev main_v37 : Ref sig .tc := ⟨.hbm, 66, rfl⟩
abbrev main_v38 : Ref sig .tc := ⟨.hbm, 67, rfl⟩
abbrev main_c_15 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_16 : Ref sig .tc := ⟨.hbm, 74, rfl⟩
abbrev main_v44 : Ref sig .tc := ⟨.hbm, 75, rfl⟩
abbrev main_v45 : Ref sig .tc := ⟨.hbm, 76, rfl⟩
abbrev main_c_17 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call2_v0 : Ref sig .tc := ⟨.hbm, 84, rfl⟩
abbrev main_call2_v1_0 : Ref sig .tc := ⟨.hbm, 85, rfl⟩
abbrev main_v52 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v53 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_cst : Ref sig .tc := ⟨.hbm, 128, rfl⟩
abbrev main_call4_v14 : Ref sig .tc := ⟨.hbm, 129, rfl⟩
abbrev main_v54 : Ref sig .tc := ⟨.hbm, 130, rfl⟩
abbrev main_v55 : Ref sig .tc := ⟨.hbm, 131, rfl⟩
abbrev main_cst_18 : Ref sig .tc := ⟨.hbm, 132, rfl⟩
abbrev main_v56 : Ref sig .tc := ⟨.hbm, 133, rfl⟩
abbrev main_cst_19 : Ref sig .tc := ⟨.hbm, 134, rfl⟩
abbrev main_v57 : Ref sig .tc := ⟨.hbm, 135, rfl⟩
abbrev main_v58 : Ref sig .tc := ⟨.hbm, 136, rfl⟩
abbrev main_cst_20 : Ref sig .tc := ⟨.hbm, 137, rfl⟩
abbrev main_v59 : Ref sig .tc := ⟨.hbm, 138, rfl⟩
abbrev main_cst_21 : Ref sig .tc := ⟨.hbm, 139, rfl⟩
abbrev main_v60 : Ref sig .tc := ⟨.hbm, 140, rfl⟩
abbrev main_cst_22 : Ref sig .tc := ⟨.hbm, 141, rfl⟩
abbrev main_v61 : Ref sig .tc := ⟨.hbm, 142, rfl⟩
abbrev main_v62 : Ref sig .tc := ⟨.hbm, 143, rfl⟩
abbrev main_cst_23 : Ref sig .tc := ⟨.hbm, 144, rfl⟩
abbrev main_v63 : Ref sig .tc := ⟨.hbm, 145, rfl⟩
abbrev main_cst_24 : Ref sig .tc := ⟨.hbm, 146, rfl⟩
abbrev main_v64 : Ref sig .tc := ⟨.hbm, 147, rfl⟩
abbrev main_v65 : Ref sig .tc := ⟨.hbm, 148, rfl⟩
abbrev main_cst_25 : Ref sig .tc := ⟨.hbm, 149, rfl⟩
abbrev main_v66 : Ref sig .tc := ⟨.hbm, 150, rfl⟩
abbrev main_cst_26 : Ref sig .tc := ⟨.hbm, 151, rfl⟩
abbrev main_v67 : Ref sig .tc := ⟨.hbm, 152, rfl⟩
abbrev main_cst_27 : Ref sig .tc := ⟨.hbm, 153, rfl⟩
abbrev main_v68 : Ref sig .tc := ⟨.hbm, 154, rfl⟩
abbrev main_v69 : Ref sig .tc := ⟨.hbm, 155, rfl⟩
abbrev main_cst_28 : Ref sig .tc := ⟨.hbm, 156, rfl⟩
abbrev main_v70 : Ref sig .tc := ⟨.hbm, 157, rfl⟩
abbrev main_cst_29 : Ref sig .tc := ⟨.hbm, 158, rfl⟩
abbrev main_v71 : Ref sig .tc := ⟨.hbm, 159, rfl⟩
abbrev main_v72 : Ref sig .tc := ⟨.hbm, 160, rfl⟩
abbrev main_cst_30 : Ref sig .tc := ⟨.hbm, 161, rfl⟩
abbrev main_v73 : Ref sig .tc := ⟨.hbm, 162, rfl⟩
abbrev main_cst_31 : Ref sig .tc := ⟨.hbm, 163, rfl⟩
abbrev main_v74 : Ref sig .tc := ⟨.hbm, 164, rfl⟩
abbrev main_cst_32 : Ref sig .tc := ⟨.hbm, 165, rfl⟩
abbrev main_v75 : Ref sig .tc := ⟨.hbm, 166, rfl⟩
abbrev main_v76 : Ref sig .tc := ⟨.hbm, 167, rfl⟩
abbrev main_cst_33 : Ref sig .tc := ⟨.hbm, 168, rfl⟩
abbrev main_v77 : Ref sig .tc := ⟨.hbm, 169, rfl⟩
abbrev main_cst_34 : Ref sig .tc := ⟨.hbm, 170, rfl⟩
abbrev main_v78 : Ref sig .tc := ⟨.hbm, 171, rfl⟩
abbrev main_v79 : Ref sig .tc := ⟨.hbm, 172, rfl⟩
abbrev main_cst_35 : Ref sig .tc := ⟨.hbm, 173, rfl⟩
abbrev main_v80 : Ref sig .tc := ⟨.hbm, 174, rfl⟩
abbrev main_cst_36 : Ref sig .tc := ⟨.hbm, 175, rfl⟩
abbrev main_v81 : Ref sig .tc := ⟨.hbm, 176, rfl⟩
abbrev main_cst_37 : Ref sig .tc := ⟨.hbm, 177, rfl⟩
abbrev main_v82 : Ref sig .tc := ⟨.hbm, 178, rfl⟩
abbrev main_v83 : Ref sig .tc := ⟨.hbm, 179, rfl⟩
abbrev main_cst_38 : Ref sig .tc := ⟨.hbm, 180, rfl⟩
abbrev main_v84 : Ref sig .tc := ⟨.hbm, 181, rfl⟩
abbrev main_cst_39 : Ref sig .tc := ⟨.hbm, 182, rfl⟩
abbrev main_v85 : Ref sig .tc := ⟨.hbm, 183, rfl⟩
abbrev main_v86 : Ref sig .tc := ⟨.hbm, 184, rfl⟩
abbrev main_cst_40 : Ref sig .tc := ⟨.hbm, 185, rfl⟩
abbrev main_v87 : Ref sig .tc := ⟨.hbm, 186, rfl⟩
abbrev main_cst_41 : Ref sig .tc := ⟨.hbm, 187, rfl⟩
abbrev main_v88 : Ref sig .tc := ⟨.hbm, 188, rfl⟩
abbrev main_cst_42 : Ref sig .tc := ⟨.hbm, 189, rfl⟩
abbrev main_v89 : Ref sig .tc := ⟨.hbm, 190, rfl⟩
abbrev main_v90 : Ref sig .tc := ⟨.hbm, 191, rfl⟩
abbrev main_cst_43 : Ref sig .tc := ⟨.hbm, 192, rfl⟩
abbrev main_v91 : Ref sig .tc := ⟨.hbm, 193, rfl⟩
abbrev main_cst_44 : Ref sig .tc := ⟨.hbm, 194, rfl⟩
abbrev main_v92 : Ref sig .tc := ⟨.hbm, 195, rfl⟩
abbrev main_v93 : Ref sig .tc := ⟨.hbm, 196, rfl⟩
abbrev main_cst_45 : Ref sig .tc := ⟨.hbm, 197, rfl⟩
abbrev main_v94 : Ref sig .tc := ⟨.hbm, 198, rfl⟩
abbrev main_cst_46 : Ref sig .tc := ⟨.hbm, 199, rfl⟩
abbrev main_v95 : Ref sig .tc := ⟨.hbm, 200, rfl⟩
abbrev main_cst_47 : Ref sig .tc := ⟨.hbm, 201, rfl⟩
abbrev main_v96 : Ref sig .tc := ⟨.hbm, 202, rfl⟩
abbrev main_v97 : Ref sig .tc := ⟨.hbm, 203, rfl⟩
abbrev main_cst_48 : Ref sig .tc := ⟨.hbm, 204, rfl⟩
abbrev main_v98 : Ref sig .tc := ⟨.hbm, 205, rfl⟩
abbrev main_cst_49 : Ref sig .tc := ⟨.hbm, 206, rfl⟩
abbrev main_v99 : Ref sig .tc := ⟨.hbm, 207, rfl⟩
abbrev main_v100 : Ref sig .tc := ⟨.hbm, 208, rfl⟩
abbrev main_cst_50 : Ref sig .tc := ⟨.hbm, 209, rfl⟩
abbrev main_v101 : Ref sig .tc := ⟨.hbm, 210, rfl⟩
abbrev main_cst_51 : Ref sig .tc := ⟨.hbm, 211, rfl⟩
abbrev main_v102 : Ref sig .tc := ⟨.hbm, 212, rfl⟩
abbrev main_cst_52 : Ref sig .tc := ⟨.hbm, 213, rfl⟩
abbrev main_v103 : Ref sig .tc := ⟨.hbm, 214, rfl⟩
abbrev main_v104 : Ref sig .tc := ⟨.hbm, 215, rfl⟩
abbrev main_cst_53 : Ref sig .tc := ⟨.hbm, 216, rfl⟩
abbrev main_v105 : Ref sig .tc := ⟨.hbm, 217, rfl⟩
abbrev main_cst_54 : Ref sig .tc := ⟨.hbm, 218, rfl⟩
abbrev main_v106 : Ref sig .tc := ⟨.hbm, 219, rfl⟩
abbrev main_v107 : Ref sig .tc := ⟨.hbm, 220, rfl⟩
abbrev main_cst_55 : Ref sig .tc := ⟨.hbm, 221, rfl⟩
abbrev main_v108 : Ref sig .tc := ⟨.hbm, 222, rfl⟩
abbrev main_cst_56 : Ref sig .tc := ⟨.hbm, 223, rfl⟩
abbrev main_v109 : Ref sig .tc := ⟨.hbm, 224, rfl⟩
abbrev main_cst_57 : Ref sig .tc := ⟨.hbm, 225, rfl⟩
abbrev main_v110 : Ref sig .tc := ⟨.hbm, 226, rfl⟩
abbrev main_v111 : Ref sig .tc := ⟨.hbm, 227, rfl⟩
abbrev main_cst_58 : Ref sig .tc := ⟨.hbm, 228, rfl⟩
abbrev main_v112 : Ref sig .tc := ⟨.hbm, 229, rfl⟩
abbrev main_cst_59 : Ref sig .tc := ⟨.hbm, 230, rfl⟩
abbrev main_v113 : Ref sig .tc := ⟨.hbm, 231, rfl⟩
abbrev main_v114 : Ref sig .tc := ⟨.hbm, 232, rfl⟩
abbrev main_cst_60 : Ref sig .tc := ⟨.hbm, 233, rfl⟩
abbrev main_v115 : Ref sig .tc := ⟨.hbm, 234, rfl⟩
abbrev main_cst_61 : Ref sig .tc := ⟨.hbm, 235, rfl⟩
abbrev main_v116 : Ref sig .tc := ⟨.hbm, 236, rfl⟩
abbrev main_cst_62 : Ref sig .tc := ⟨.hbm, 237, rfl⟩
abbrev main_v117 : Ref sig .tc := ⟨.hbm, 238, rfl⟩
abbrev main_v118 : Ref sig .tc := ⟨.hbm, 239, rfl⟩
abbrev main_cst_63 : Ref sig .tc := ⟨.hbm, 240, rfl⟩
abbrev main_v119 : Ref sig .tc := ⟨.hbm, 241, rfl⟩
abbrev main_cst_64 : Ref sig .tc := ⟨.hbm, 242, rfl⟩
abbrev main_v120 : Ref sig .tc := ⟨.hbm, 243, rfl⟩
abbrev main_v121 : Ref sig .tc := ⟨.hbm, 244, rfl⟩
abbrev main_cst_65 : Ref sig .tc := ⟨.hbm, 245, rfl⟩
abbrev main_v122 : Ref sig .tc := ⟨.hbm, 246, rfl⟩
abbrev main_cst_66 : Ref sig .tc := ⟨.hbm, 247, rfl⟩
abbrev main_v123 : Ref sig .tc := ⟨.hbm, 248, rfl⟩
abbrev main_cst_67 : Ref sig .tc := ⟨.hbm, 249, rfl⟩
abbrev main_v124 : Ref sig .tc := ⟨.hbm, 250, rfl⟩
abbrev main_v125 : Ref sig .tc := ⟨.hbm, 251, rfl⟩
abbrev main_cst_68 : Ref sig .tc := ⟨.hbm, 252, rfl⟩
abbrev main_v126 : Ref sig .tc := ⟨.hbm, 253, rfl⟩
abbrev main_cst_69 : Ref sig .tc := ⟨.hbm, 254, rfl⟩
abbrev main_v127 : Ref sig .tc := ⟨.hbm, 255, rfl⟩
abbrev main_v128 : Ref sig .tc := ⟨.hbm, 256, rfl⟩
abbrev main_cst_70 : Ref sig .tc := ⟨.hbm, 257, rfl⟩
abbrev main_v129 : Ref sig .tc := ⟨.hbm, 258, rfl⟩
abbrev main_cst_71 : Ref sig .tc := ⟨.hbm, 259, rfl⟩
abbrev main_v130 : Ref sig .tc := ⟨.hbm, 260, rfl⟩
abbrev main_cst_72 : Ref sig .tc := ⟨.hbm, 261, rfl⟩
abbrev main_v131 : Ref sig .tc := ⟨.hbm, 262, rfl⟩
abbrev main_v132 : Ref sig .tc := ⟨.hbm, 263, rfl⟩
abbrev main_cst_73 : Ref sig .tc := ⟨.hbm, 264, rfl⟩
abbrev main_v133 : Ref sig .tc := ⟨.hbm, 265, rfl⟩
abbrev main_cst_74 : Ref sig .tc := ⟨.hbm, 266, rfl⟩
abbrev main_v134 : Ref sig .tc := ⟨.hbm, 267, rfl⟩
abbrev main_v135 : Ref sig .tc := ⟨.hbm, 268, rfl⟩
abbrev main_cst_75 : Ref sig .tc := ⟨.hbm, 269, rfl⟩
abbrev main_v136 : Ref sig .tc := ⟨.hbm, 270, rfl⟩
abbrev main_cst_76 : Ref sig .tc := ⟨.hbm, 271, rfl⟩
abbrev main_v137 : Ref sig .tc := ⟨.hbm, 272, rfl⟩
abbrev main_cst_77 : Ref sig .tc := ⟨.hbm, 273, rfl⟩
abbrev main_v138 : Ref sig .tc := ⟨.hbm, 274, rfl⟩
abbrev main_v139 : Ref sig .tc := ⟨.hbm, 275, rfl⟩
abbrev main_cst_78 : Ref sig .tc := ⟨.hbm, 276, rfl⟩
abbrev main_v140 : Ref sig .tc := ⟨.hbm, 277, rfl⟩
abbrev main_cst_79 : Ref sig .tc := ⟨.hbm, 278, rfl⟩
abbrev main_v141 : Ref sig .tc := ⟨.hbm, 279, rfl⟩
abbrev main_v142 : Ref sig .tc := ⟨.hbm, 280, rfl⟩
abbrev main_cst_80 : Ref sig .tc := ⟨.hbm, 281, rfl⟩
abbrev main_v143 : Ref sig .tc := ⟨.hbm, 282, rfl⟩
abbrev main_cst_81 : Ref sig .tc := ⟨.hbm, 283, rfl⟩
abbrev main_v144 : Ref sig .tc := ⟨.hbm, 284, rfl⟩
abbrev main_cst_82 : Ref sig .tc := ⟨.hbm, 285, rfl⟩
abbrev main_v145 : Ref sig .tc := ⟨.hbm, 286, rfl⟩
abbrev main_v146 : Ref sig .tc := ⟨.hbm, 287, rfl⟩
abbrev main_cst_83 : Ref sig .tc := ⟨.hbm, 288, rfl⟩
abbrev main_v147 : Ref sig .tc := ⟨.hbm, 289, rfl⟩
abbrev main_cst_84 : Ref sig .tc := ⟨.hbm, 290, rfl⟩
abbrev main_v148 : Ref sig .tc := ⟨.hbm, 291, rfl⟩
abbrev main_v149 : Ref sig .tc := ⟨.hbm, 292, rfl⟩
abbrev main_cst_85 : Ref sig .tc := ⟨.hbm, 293, rfl⟩
abbrev main_v150 : Ref sig .tc := ⟨.hbm, 294, rfl⟩
abbrev main_cst_86 : Ref sig .tc := ⟨.hbm, 295, rfl⟩
abbrev main_v151 : Ref sig .tc := ⟨.hbm, 296, rfl⟩
abbrev main_cst_87 : Ref sig .tc := ⟨.hbm, 297, rfl⟩
abbrev main_v152 : Ref sig .tc := ⟨.hbm, 298, rfl⟩
abbrev main_v153 : Ref sig .tc := ⟨.hbm, 299, rfl⟩
abbrev main_cst_88 : Ref sig .tc := ⟨.hbm, 300, rfl⟩
abbrev main_v154 : Ref sig .tc := ⟨.hbm, 301, rfl⟩
abbrev main_cst_89 : Ref sig .tc := ⟨.hbm, 302, rfl⟩
abbrev main_v155 : Ref sig .tc := ⟨.hbm, 303, rfl⟩
abbrev main_v156 : Ref sig .tc := ⟨.hbm, 304, rfl⟩
abbrev main_cst_90 : Ref sig .tc := ⟨.hbm, 305, rfl⟩
abbrev main_v157 : Ref sig .tc := ⟨.hbm, 306, rfl⟩
abbrev main_cst_91 : Ref sig .tc := ⟨.hbm, 307, rfl⟩
abbrev main_v158 : Ref sig .tc := ⟨.hbm, 308, rfl⟩
abbrev main_cst_92 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_v167 : Ref sig .tc := ⟨.hbm, 318, rfl⟩
abbrev main_v168 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_v179 : Ref sig .tc := ⟨.hbm, 330, rfl⟩
abbrev main_v180 : Ref sig .tc := ⟨.hbm, 331, rfl⟩
abbrev main_v181 : Ref sig .tc := ⟨.hbm, 332, rfl⟩
abbrev main_v182 : Ref sig .tc := ⟨.hbm, 333, rfl⟩
abbrev main_v183 : Ref sig .tc := ⟨.hbm, 334, rfl⟩
abbrev main_v184 : Ref sig .tc := ⟨.hbm, 335, rfl⟩
abbrev main_v185 : Ref sig .tc := ⟨.hbm, 336, rfl⟩
abbrev main_v186 : Ref sig .tc := ⟨.hbm, 337, rfl⟩
abbrev main_v187 : Ref sig .tc := ⟨.hbm, 338, rfl⟩
abbrev main_v188 : Ref sig .tc := ⟨.hbm, 339, rfl⟩
abbrev main_v189 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_cst_93 : Ref sig .tc := ⟨.hbm, 345, rfl⟩
abbrev main_v194 : Ref sig .tc := ⟨.hbm, 346, rfl⟩
abbrev main_cst_94 : Ref sig .tc := ⟨.hbm, 347, rfl⟩
abbrev main_v195 : Ref sig .tc := ⟨.hbm, 348, rfl⟩

abbrev nD : Nat := 1
abbrev τ : Topo := Topo.v7x

variable {F : FTy → Type} [FloatOps F]
-- ==== Proof.KernelIdealHist.lean ====
/-
  What the histogram task leaves in its tables, as plain recursions over any number format: a table word belongs to one
  lane and one bucket, and changes only at that lane's elements whose confidence falls in that bucket.
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

noncomputable section

namespace Cert.Proof.KernelIdealHist

open Cert.KernelIdeal Cert.KernelIdeal.Gen
open Idealize.ShloMosaic

variable {F : FTy → Type} [FloatOps F]

/-- The bucket of a confidence: its 1024-fold as an integer, clamped to 0 … 1023. -/
def bucketW (c : F .f32) : BitVec 32 :=
  IntOp.minsi (IntOp.maxsi (FloatOps.fptosi 32 (FloatOps.mulf c (FloatOps.ofBits .f32 0x44800000#32))) 0#32) 1023#32

def bucket (c : F .f32) : ℕ := (bucketW c).toNat

theorem clamp_lt (x : BitVec 32) : (IntOp.minsi (IntOp.maxsi x 0#32) 1023#32).toNat < 1024 := by
  unfold IntOp.minsi IntOp.maxsi
  by_cases h : (0#32).slt x = true
  · rw [if_pos h]
    rw [BitVec.slt_iff_toInt_lt] at h
    by_cases h2 : x.slt 1023#32 = true
    · rw [if_pos h2]
      rw [BitVec.slt_iff_toInt_lt] at h2
      rw [show (0#32).toInt = 0 from rfl] at h
      rw [show (1023#32).toInt = 1023 from rfl] at h2
      rw [BitVec.toInt_eq_toNat_cond] at h h2
      split at h <;> omega
    · rw [if_neg h2]; decide
  · rw [if_neg h]; decide

theorem bucket_lt (c : F .f32) : bucket c < 1024 := clamp_lt _

/-- Lane `l` of a vector. -/
abbrev lane (l : Fin 16) : S16.Idx := Shape.ofLane (d := ![16]) l

theorem pay6_apply (v : Vec F S16 .f32) (l : Fin 16) :
    (k0_pay6 v (lane l)).toNat = l.val * 1024 + bucket (v (lane l)) := by
  have hb := bucket_lt (v (lane l))
  have h2 : (k0_pay2 (lane l)).toNat = l.val * 1024 := by clear hb; revert l; decide
  show (bucketW (v (lane l)) + k0_pay2 (lane l)).toNat = _
  rw [BitVec.toNat_add, h2]
  have := l.isLt
  unfold bucket at hb ⊢
  omega

theorem pay7_eq : k0_pay7 (F := F) = k0_pay6 := rfl

theorem lane_surj (x : S16.Idx) : ∃ l : Fin 16, x = lane l := ⟨x 0, by
  funext a; rw [Subsingleton.elim a 0]; rfl⟩

theorem chk1_pay6 (v : Vec F S16 .f32) : k0_chk1 (k0_pay6 v) := by
  have h : ∀ a x, ((![k0_pay6 v] : Fin 1 → IVec S16 32) a x).toNat < S16384.size a := by
    intro a x
    obtain ⟨l, rfl⟩ := lane_surj x
    rw [Subsingleton.elim a 0]
    show (k0_pay6 v (lane l)).toNat < 16384
    rw [pay6_apply]
    have := bucket_lt (v (lane l)); have := l.isLt
    omega
  exact ⟨h, h, h⟩

theorem chk2_pay7 (v : Vec F S16 .f32) : k0_chk2 (k0_pay7 v) := chk1_pay6 v

/-- The lane and the bucket a table word belongs to. -/
def laneOf (j : S16384.Idx) : ℕ := (j 0).val / 1024
def buckOf (j : S16384.Idx) : ℕ := (j 0).val % 1024
theorem laneOf_lt (j : S16384.Idx) : laneOf j < 16 := Nat.div_lt_of_lt_mul (j 0).isLt

/-- One element with confidence `c` and value `v` met by the table word of bucket `b` holding `a`. -/
def bump (b : ℕ) (c v a : F .f32) : F .f32 := if bucket c = b then Elt.idxAdd .f32 a v else a

theorem foldl_lanes (f : S16384.Idx → F .f32) (iv : S16.Idx → BitVec 32) (c v : Vec F S16 .f32) (mask : IVec S16 1)
    (h : ∀ a x, ((![iv] : Fin 1 → IVec S16 32) a x).toNat < S16384.size a)
    (hiv : ∀ l : Fin 16, (iv (lane l)).toNat = l.val * 1024 + bucket (c (lane l)))
    (ks : List (Fin 16)) (hn : ks.Nodup) (j : S16384.Idx) :
    ks.foldl (fun g k =>
      let x := lane k
      if mask x = 1 then
        let i := idxAt ![iv] h x
        let y := if true then Elt.idxAdd .f32 (g i) (v x) else v x
        fun j => if (∀ a, (j a).val = (i a).val) then y else g j
      else g) f j
      = if (⟨laneOf j, laneOf_lt j⟩ : Fin 16) ∈ ks ∧ mask (lane ⟨laneOf j, laneOf_lt j⟩) = 1
        then bump (buckOf j) (c (lane ⟨laneOf j, laneOf_lt j⟩)) (v (lane ⟨laneOf j, laneOf_lt j⟩)) (f j) else f j := by
  induction ks generalizing f with
  | nil => simp
  | cons k ks ih =>
    rw [List.foldl_cons, ih _ (List.nodup_cons.mp hn).2]
    have hk : k ∉ ks := (List.nodup_cons.mp hn).1
    have hb := bucket_lt (c (lane k))
    have hii : ∀ j' : S16384.Idx, (∀ a, (j' a).val = (idxAt (s := S16384) ![iv] h (lane k) a).val) ↔ (laneOf j' = k.val ∧ buckOf j' = bucket (c (lane k))) := by
      intro j'
      have e : (idxAt (s := S16384) ![iv] h (lane k) 0).val = k.val * 1024 + bucket (c (lane k)) := hiv k
      constructor
      · intro hh
        have := hh 0
        rw [e] at this
        unfold laneOf buckOf
        omega
      · rintro ⟨h1, h2⟩ a
        rw [Subsingleton.elim a 0, e]
        unfold laneOf at h1; unfold buckOf at h2
        omega
    by_cases hm : mask (lane k) = 1
    · simp only [hm, if_true]
      by_cases hl : laneOf j = k.val
      · have hlk : (⟨laneOf j, laneOf_lt j⟩ : Fin 16) = k := Fin.ext hl
        rw [hlk]
        simp only [hk, false_and, if_false, List.mem_cons, true_or, hm, and_self, if_true]
        unfold bump
        by_cases hbk : buckOf j = bucket (c (lane k))
        · rw [if_pos ((hii j).mpr ⟨hl, hbk⟩), if_pos hbk.symm]
          congr 2
          funext a
          exact Fin.ext ((hii j).mpr ⟨hl, hbk⟩ a).symm
        · rw [if_neg (fun hh => hbk ((hii j).mp hh).2), if_neg (fun hh => hbk hh.symm)]
      · have hlk : (⟨laneOf j, laneOf_lt j⟩ : Fin 16) ≠ k := fun e => hl (congrArg Fin.val e)
        rw [if_neg (fun hh => hl ((hii j).mp hh).1)]
        simp only [List.mem_cons, hlk, false_or]
    · simp only [hm, if_false]
      by_cases hlk : (⟨laneOf j, laneOf_lt j⟩ : Fin 16) = k
      · rw [hlk, if_neg (fun hh => hm hh.2), if_neg (fun hh => hm hh.2)]
      · simp only [List.mem_cons, hlk, false_or]

/-- A scatter-add at the lanes' bucket indices, word by word. -/
theorem storeIdx_apply (f : S16384.Idx → F .f32) (iv : S16.Idx → BitVec 32) (c v : Vec F S16 .f32) (mask : IVec S16 1)
    (h : ∀ a x, ((![iv] : Fin 1 → IVec S16 32) a x).toNat < S16384.size a)
    (hiv : ∀ l : Fin 16, (iv (lane l)).toNat = l.val * 1024 + bucket (c (lane l))) (j : S16384.Idx) :
    storeIdx (F := F) (s := S16384) (e := .f32) (d := ![16]) f ![iv] v mask true h j
      = if mask (lane ⟨laneOf j, laneOf_lt j⟩) = 1
        then bump (buckOf j) (c (lane ⟨laneOf j, laneOf_lt j⟩)) (v (lane ⟨laneOf j, laneOf_lt j⟩)) (f j) else f j := by
  have := foldl_lanes f iv c v mask h hiv (List.finRange 16) (List.nodup_finRange 16) j
  have e : storeIdx (F := F) (s := S16384) (e := .f32) (d := ![16]) f ![iv] v mask true h j
      = (if (⟨laneOf j, laneOf_lt j⟩ : Fin 16) ∈ List.finRange 16 ∧ mask (lane ⟨laneOf j, laneOf_lt j⟩) = 1
        then bump (buckOf j) (c (lane ⟨laneOf j, laneOf_lt j⟩)) (v (lane ⟨laneOf j, laneOf_lt j⟩)) (f j) else f j) := by
    rw [← this]
    unfold storeIdx
    refine congrFun (congrArg (fun φ => List.foldl φ f (List.finRange 16)) ?_) j
    funext g k
    dsimp only
    split
    · funext j'
      split
      · rfl
      · rfl
    · rfl
  rw [e]
  by_cases hm : mask (lane ⟨laneOf j, laneOf_lt j⟩) = 1
  · rw [if_pos ⟨List.mem_finRange _, hm⟩, if_pos hm]
  · rw [if_neg (fun hh => hm hh.2), if_neg hm]

/-! ## A table word's history -/

/-- The word of lane `l`, bucket `b` after the first `n` vectors from position `base`, starting at `a`: `C` the
    confidences and `V` the values by position. -/
def laneFold (C V : ℕ → F .f32) (base l b : ℕ) (a : F .f32) : ℕ → F .f32
  | 0 => a
  | n + 1 => bump b (C (base + 16 * n + l)) (V (base + 16 * n + l)) (laneFold C V base l b a n)

/-- Vectors of a chunk in which lane `l` takes part: the last has only its first eight lanes. -/
def vecs (l : ℕ) : ℕ := if l < 8 then 1563 else 1562

/-- The word after `n` chunks of task `w`. -/
def chunkFold (C V : ℕ → F .f32) (w l b : ℕ) : ℕ → F .f32
  | 0 => FloatOps.ofBits .f32 0x00000000#32
  | n + 1 => laneFold C V (125000 * w + 25000 * n) l b (chunkFold C V w l b n) (vecs l)

/-- The whole table of task `w` after `n` chunks. -/
def table (C V : ℕ → F .f32) (w n : ℕ) : S16384.Idx → F .f32 := fun j => chunkFold C V w (laneOf j) (buckOf j) n

/-- The table within chunk `n` of task `w`, after `t` vectors of it. -/
def tableIn (C V : ℕ → F .f32) (w n t : ℕ) : S16384.Idx → F .f32 :=
  fun j => laneFold C V (125000 * w + 25000 * n) (laneOf j) (buckOf j) (chunkFold C V w (laneOf j) (buckOf j) n) t

theorem tableIn_zero (C V : ℕ → F .f32) (w n : ℕ) : tableIn C V w n 0 = table C V w n := rfl

theorem tableIn_step (C V : ℕ → F .f32) (w n t : ℕ) (c v : Vec F S16 .f32)
    (h : ∀ a x, ((![k0_pay6 c] : Fin 1 → IVec S16 32) a x).toNat < S16384.size a)
    (hc : ∀ l : Fin 16, c (lane l) = C (125000 * w + 25000 * n + 16 * t + l.val))
    (hv : ∀ l : Fin 16, v (lane l) = V (125000 * w + 25000 * n + 16 * t + l.val)) :
    storeIdx (F := F) (s := S16384) (e := .f32) (d := ![16]) (tableIn C V w n t) ![k0_pay6 c] v k0_pay4 true h = tableIn C V w n (t + 1) := by
  funext j
  rw [storeIdx_apply _ _ c _ _ _ (pay6_apply c)]
  have hm : ∀ l : Fin 16, k0_pay4 (lane l) = 1 := by decide
  rw [if_pos (hm _), hc, hv]
  rfl

theorem tableIn_tail (C V : ℕ → F .f32) (w n : ℕ) (c v : Vec F S16 .f32)
    (h : ∀ a x, ((![k0_pay7 c] : Fin 1 → IVec S16 32) a x).toNat < S16384.size a)
    (hc : ∀ l : Fin 16, l.val < 8 → c (lane l) = C (125000 * w + 25000 * n + 16 * 1562 + l.val))
    (hv : ∀ l : Fin 16, l.val < 8 → v (lane l) = V (125000 * w + 25000 * n + 16 * 1562 + l.val)) :
    storeIdx (F := F) (s := S16384) (e := .f32) (d := ![16]) (tableIn C V w n 1562) ![k0_pay7 c] v k0_pay5 true h = table C V w (n + 1) := by
  funext j
  refine (storeIdx_apply _ _ c _ _ h (pay6_apply c) j).trans ?_
  have hm : ∀ l : Fin 16, k0_pay5 (lane l) = 1 ↔ l.val < 8 := by decide
  show _ = laneFold C V (125000 * w + 25000 * n) (laneOf j) (buckOf j) (chunkFold C V w (laneOf j) (buckOf j) n) (vecs (laneOf j))
  unfold vecs
  by_cases hl : laneOf j < 8
  · rw [if_pos ((hm _).mpr hl), if_pos hl, hc _ hl, hv _ hl]; rfl
  · rw [if_neg (fun hh => hl ((hm _).mp hh)), if_neg hl]; rfl

end Cert.Proof.KernelIdealHist
-- ==== Proof.KernelIdealTile.lean ====
/-
  The SparseCore task: on every vector subcore the three tables are zeroed, five chunks of the confidences and of the
  errors are fetched and scatter-added, and the tables are written to the subcore's row of the three outputs. The
  contents of the tables are carried through the loops, so the rows handed back hold them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.KernelIdealHist

@[expose] public section

noncomputable section

namespace Cert.Proof.KernelIdealTile

open Cert.KernelIdeal Cert.KernelIdeal.Gen Cert.Proof.KernelIdealHist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "cW" => (Memref.whole Cert.KernelIdeal.main_arg0_scv : Memref Cert.KernelIdeal.sig Kind.scVector Space.hbm Cert.KernelIdeal.S4000000 EltTy.f32)
local notation "eW" => (Memref.whole Cert.KernelIdeal.main_arg1_scv : Memref Cert.KernelIdeal.sig Kind.scVector Space.hbm Cert.KernelIdeal.S4000000 EltTy.f32)
local notation "o1W" => (Memref.whole Cert.KernelIdeal.main_v2_0_scv : Memref Cert.KernelIdeal.sig Kind.scVector Space.hbm Cert.KernelIdeal.S32x16384 EltTy.f32)
local notation "o2W" => (Memref.whole Cert.KernelIdeal.main_v2_1_scv : Memref Cert.KernelIdeal.sig Kind.scVector Space.hbm Cert.KernelIdeal.S32x16384 EltTy.f32)
local notation "o3W" => (Memref.whole Cert.KernelIdeal.main_v2_2_scv : Memref Cert.KernelIdeal.sig Kind.scVector Space.hbm Cert.KernelIdeal.S32x16384 EltTy.f32)
local notation "s0W" => (Memref.whole Cert.KernelIdeal.cc0_scratch0 : Memref Cert.KernelIdeal.sig Kind.scVector Space.vmem Cert.KernelIdeal.S25016 EltTy.f32)
local notation "s1W" => (Memref.whole Cert.KernelIdeal.cc0_scratch1 : Memref Cert.KernelIdeal.sig Kind.scVector Space.vmem Cert.KernelIdeal.S25016 EltTy.f32)
local notation "h1W" => (Memref.whole Cert.KernelIdeal.cc0_scratch2 : Memref Cert.KernelIdeal.sig Kind.scVector Space.vmem Cert.KernelIdeal.S16384 EltTy.f32)
local notation "h2W" => (Memref.whole Cert.KernelIdeal.cc0_scratch3 : Memref Cert.KernelIdeal.sig Kind.scVector Space.vmem Cert.KernelIdeal.S16384 EltTy.f32)
local notation "h3W" => (Memref.whole Cert.KernelIdeal.cc0_scratch4 : Memref Cert.KernelIdeal.sig Kind.scVector Space.vmem Cert.KernelIdeal.S16384 EltTy.f32)

abbrev cLoc (d : Dev nD) : Loc nD τ sig := (SparseCore.T d).loc main_arg0
abbrev eLoc (d : Dev nD) : Loc nD τ sig := (SparseCore.T d).loc main_arg1
abbrev o1Loc (d : Dev nD) : Loc nD τ sig := (SparseCore.T d).loc main_v2_0
abbrev o2Loc (d : Dev nD) : Loc nD τ sig := (SparseCore.T d).loc main_v2_1
abbrev o3Loc (d : Dev nD) : Loc nD τ sig := (SparseCore.T d).loc main_v2_2

/-- Element `n` of a flat array, by its position. -/
def atPos {α : Type} (X : S4000000.Idx → α) (n : ℕ) : α := X (Shape.ofLane (d := ![4000000]) (⟨n % 4000000, Nat.mod_lt _ (by decide)⟩ : Fin 4000000))

variable [FloatOps F]

/-- The confidences and the errors by position. -/
abbrev cN (d : Dev nD) : ℕ → F .f32 := atPos (m (cLoc d))
abbrev eN (d : Dev nD) : ℕ → F .f32 := atPos (m (eLoc d))
abbrev oneN : ℕ → F .f32 := fun _ => FloatOps.ofBits .f32 0x3F800000#32

/-- What the call leaves in an output: row `w` is the table of task `w`. -/
def rows (C X : ℕ → F .f32) : S32x16384.Idx → F .f32 := fun x => table C X (x 0).val 5 (Shape.ofLane (d := ![16384]) (x 1))

/-- The row of task (core `c`, subcore `i`) of an output. -/
def rowSet (c i : ℕ) : Finset S32x16384.Idx := Finset.univ.filter fun x => (x 0).val = 2 * i + c

/-- The share of an input a task reads through. -/
def shr (c : Fin 2) (i : Fin 16) : PosShare TreeShare := Transfers.dealOf (Transfers.dealOf fullShare Finset.univ c) Finset.univ i

/-- What the task on subcore `i` of SparseCore `c` is handed: a share of the two inputs and its row of the outputs. -/
def goR (d : Dev nD) (c : Fin 2) (i : Fin 16) : sProp 𝕄 :=
  iprop((cLoc d ↦{shr c i} m (cLoc d)) ∗ (eLoc d ↦{shr c i} m (eLoc d))
    ∗ (o1Loc d ↦[rowSet c i]{fullShare} m (o1Loc d)) ∗ (o2Loc d ↦[rowSet c i]{fullShare} m (o2Loc d))
    ∗ (o3Loc d ↦[rowSet c i]{fullShare} m (o3Loc d)))

/-- What it hands back: the same, its row at its tables. -/
def tdR (d : Dev nD) (c : Fin 2) (i : Fin 16) : sProp 𝕄 :=
  iprop((cLoc d ↦{shr c i} m (cLoc d)) ∗ (eLoc d ↦{shr c i} m (eLoc d))
    ∗ (o1Loc d ↦[rowSet c i]{fullShare} rows (cN m d) oneN) ∗ (o2Loc d ↦[rowSet c i]{fullShare} rows (cN m d) (cN m d))
    ∗ (o3Loc d ↦[rowSet c i]{fullShare} rows (cN m d) (eN m d)))

instance goR_storable (d : Dev nD) (c : Fin 2) (i : Fin 16) : BI.Storable (upEmb : UEmb _ 𝕄) (goR m d c i) := by
  unfold goR; infer_instance
instance tdR_storable (d : Dev nD) (c : Fin 2) (i : Fin 16) : BI.Storable (upEmb : UEmb _ 𝕄) (tdR m d c i) := by
  unfold tdR; infer_instance

/-- The call's payloads: a SparseCore is handed what its sixteen tasks are. -/
def P : (K (F := F)).Pay (nD := nD) (Val := Elt F) (Name := ℕ) (U := UU) where
  st := fun q d c => match q with | 0 => bigSep Finset.univ fun i : Fin 16 => goR m d (Fin.cast nCore_zero c) i
  dn := fun q d c => match q with | 0 => bigSep Finset.univ fun i : Fin 16 => tdR m d (Fin.cast nCore_zero c) i
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goR m d (Fin.cast nCore_zero c) i))
  dn q d c := match q with
    | 0 => (inferInstance : BI.Storable (upEmb : UEmb _ 𝕄) (bigSep Finset.univ fun i : Fin 16 => tdR m d (Fin.cast nCore_zero c) i))
  go q d c i := match q with
    | 0 => goR_storable m d _ _
  td q d c i := match q with
    | 0 => tdR_storable m d _ _

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The task's number. -/
abbrev wid (L : grid0.Coords) : ℕ := 2 * (L 1).val + (L 0).val

abbrev thr (d : Dev nD) (L : grid0.Coords) : Thread nD τ := V d (cV L) (jV L)

abbrev semG (s : DmaSem sig) : GSem nD τ sig := (thr d L, .dma s)

omit [FloatOps F] in
theorem ownSems0_V :
    (ownSems0 (thr d L) : sProp 𝕄)
      = iprop(semVal (thr d L, .dma cc0_scoped0.sem) 0 ∗ semVal (thr d L, .dma cc0_scoped1.sem) 0 ∗ semVal (thr d L, .dma cc0_scoped2.sem) 0
          ∗ semVal (thr d L, .dma cc0_scoped3.sem) 0 ∗ semVal (thr d L, .dma cc0_scoped4.sem) 0
          ∗ bigSep ((((((ownCells (thr d L)).erase (thr d L, .dma cc0_scoped0.sem)).erase (thr d L, .dma cc0_scoped1.sem)).erase (thr d L, .dma cc0_scoped2.sem)).erase
              (thr d L, .dma cc0_scoped3.sem)).erase (thr d L, .dma cc0_scoped4.sem)) fun g => semVal g 0) := by
  have hs : ∀ s : DmaSem sig, (SemLoc.dma s : SemLoc sig).isScoped .scVector = true → ((thr d L, .dma s) : GSem nD τ sig) ∈ ownCells (thr d L) :=
    fun s h => (mem_ownCells (g := (thr d L, .dma s))).mpr ⟨rfl, h⟩
  have hne : ∀ s s' : DmaSem sig, s ≠ s' → ((thr d L, .dma s) : GSem nD τ sig) ≠ (thr d L, .dma s') :=
    fun s s' h e => h (SemLoc.dma.inj (Prod.mk.inj e).2)
  unfold SparseCore.Cfg.ownSems0
  rw [SparseCore.bigSep_erase' (hs cc0_scoped0.sem (by decide)),
    SparseCore.bigSep_erase' (Finset.mem_erase.mpr ⟨hne _ _ (by decide), hs cc0_scoped1.sem (by decide)⟩),
    SparseCore.bigSep_erase' (Finset.mem_erase.mpr ⟨hne _ _ (by decide), Finset.mem_erase.mpr ⟨hne _ _ (by decide), hs cc0_scoped2.sem (by decide)⟩⟩),
    SparseCore.bigSep_erase' (Finset.mem_erase.mpr ⟨hne _ _ (by decide), Finset.mem_erase.mpr ⟨hne _ _ (by decide), Finset.mem_erase.mpr ⟨hne _ _ (by decide),
      hs cc0_scoped3.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hs cc0_scoped4.sem (by decide)⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have hs : ∀ r : Ref sig .scVector, ((Proc.scVector (cV L) (jV L)).devRef r).owner = .proc (Proc.scVector (cV L) (jV L)) →
      ((Proc.scVector (cV L) (jV L)).devRef r) ∈ ownRefs (τ := τ) (.scVector (cV L) (jV L)) :=
    fun r h => SparseCore.Cfg.mem_ownRefs_of_owner (p := Proc.scVector (cV L) (jV L)) (b := (Proc.scVector (cV L) (jV L)).devRef r) h
  have hne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (hs cc0_scratch0 rfl)).trans ?_
  rw [SparseCore.bigSep_erase' (Finset.mem_erase.mpr ⟨hne _ _ (by decide), hs cc0_scratch1 rfl⟩),
    SparseCore.bigSep_erase' (Finset.mem_erase.mpr ⟨hne _ _ (by decide), Finset.mem_erase.mpr ⟨hne _ _ (by decide), hs cc0_scratch2 rfl⟩⟩),
    SparseCore.bigSep_erase' (Finset.mem_erase.mpr ⟨hne _ _ (by decide), Finset.mem_erase.mpr ⟨hne _ _ (by decide), Finset.mem_erase.mpr ⟨hne _ _ (by decide),
      hs cc0_scratch3 rfl⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hs cc0_scratch4 rfl⟩⟩⟩⟩)]

omit [FloatOps F] in
theorem pts_s0 (f : Buf (Elt F) ((thr d L).loc cc0_scratch0)) : ((s0W).view.loc (thr d L) ↦{fullShare} f : sProp 𝕄) = (thr d L).loc cc0_scratch0 ↦{fullShare} f := rfl
omit [FloatOps F] in
theorem pts_s1 (f : Buf (Elt F) ((thr d L).loc cc0_scratch1)) : ((s1W).view.loc (thr d L) ↦{fullShare} f : sProp 𝕄) = (thr d L).loc cc0_scratch1 ↦{fullShare} f := rfl
omit [FloatOps F] in
theorem pts_h1 (f : Buf (Elt F) ((thr d L).loc cc0_scratch2)) : ((h1W).view.loc (thr d L) ↦{fullShare} f : sProp 𝕄) = (thr d L).loc cc0_scratch2 ↦{fullShare} f := rfl
omit [FloatOps F] in
theorem pts_h2 (f : Buf (Elt F) ((thr d L).loc cc0_scratch3)) : ((h2W).view.loc (thr d L) ↦{fullShare} f : sProp 𝕄) = (thr d L).loc cc0_scratch3 ↦{fullShare} f := rfl
omit [FloatOps F] in
theorem pts_h3 (f : Buf (Elt F) ((thr d L).loc cc0_scratch4)) : ((h3W).view.loc (thr d L) ↦{fullShare} f : sProp 𝕄) = (thr d L).loc cc0_scratch4 ↦{fullShare} f := rfl
omit [FloatOps F] in
theorem pts_c (q : PosShare TreeShare) (f : Buf (Elt F) (cLoc d)) : ((cW).view.loc (thr d L) ↦{q} f : sProp 𝕄) = cLoc d ↦{q} f := rfl
omit [FloatOps F] in
theorem pts_e (q : PosShare TreeShare) (f : Buf (Elt F) (eLoc d)) : ((eW).view.loc (thr d L) ↦{q} f : sProp 𝕄) = eLoc d ↦{q} f := rfl

/-- The three tables at given contents. -/
def tabs (f1 f2 f3 : S16384.Idx → F .f32) : sProp 𝕄 :=
  iprop(((h1W).view.loc (thr d L) ↦{fullShare} f1) ∗ ((h2W).view.loc (thr d L) ↦{fullShare} f2) ∗ ((h3W).view.loc (thr d L) ↦{fullShare} f3))

/-- The zeroing loop before trip `k`: the first `16 k` words of each table are zero. -/
def inv1 (k : Nat) (_ : BitVec 32) : sProp 𝕄 :=
  iprop(∃ f1 f2 f3 : S16384.Idx → F .f32, ⌜∀ j : S16384.Idx, (j 0).val < 16 * k → f1 j = FloatOps.ofBits .f32 0x00000000#32 ∧ f2 j = FloatOps.ofBits .f32 0x00000000#32 ∧ f3 j = FloatOps.ofBits .f32 0x00000000#32⌝
    ∗ tabs d L f1 f2 f3)

omit [FloatOps F] in
theorem set_row : ((Rect.unit (s := S32x16384) (k0_off4 L) S1x16384.size (k0_off4_inb L)).set : Finset S32x16384.Idx) = rowSet (cL L).val (jL L).val := by
  ext x
  unfold rowSet
  rw [Rect.mem_set_unit, Finset.mem_filter]
  rw [k0_off4_eq]
  have h1 := (x 1).isLt
  constructor
  · intro h
    have := h 0
    refine ⟨Finset.mem_univ _, ?_⟩
    change 2 * (L 1).val + (L 0).val ≤ _ ∧ _ < 2 * (L 1).val + (L 0).val + 1 at this
    show _ = 2 * (L 1).val + (L 0).val
    omega
  · rintro ⟨-, h⟩ a
    change _ = 2 * (L 1).val + (L 0).val at h
    match a with
    | 0 => show 2 * (L 1).val + (L 0).val ≤ _ ∧ _ < 2 * (L 1).val + (L 0).val + 1; omega
    | 1 => exact ⟨Nat.zero_le _, by show (x 1).val < 0 + 16384; rw [Nat.zero_add]; exact h1⟩

omit [FloatOps F] in
/-- Where word `y` of a row lies: row `wid`, column `y`. -/
theorem emb_row (y : S16384.Idx) :
    (((Rect.unit (s := S32x16384) (k0_off4 L) S1x16384.size (k0_off4_inb L)).emb (Shape.reshapeEquiv squeezes_S1x16384_S16384.numel_eq y) : S32x16384.Idx) 0).val = wid L
    ∧ (((Rect.unit (s := S32x16384) (k0_off4 L) S1x16384.size (k0_off4_inb L)).emb (Shape.reshapeEquiv squeezes_S1x16384_S16384.numel_eq y) : S32x16384.Idx) 1).val = (y 0).val := by
  have h := Shape.rowMajor_reshapeEquiv squeezes_S1x16384_S16384.numel_eq y
  generalize Shape.reshapeEquiv squeezes_S1x16384_S16384.numel_eq y = z at h ⊢
  rw [Shape.rowMajor_val_two, Shape.rowMajor_val_one] at h
  change (z 0).val * 16384 + (z 1).val = _ at h
  have h0 : (z 0).val < 1 := (z 0).isLt
  have e0 : k0_off4 L 0 = wid L := by rw [k0_off4_eq]; rfl
  have e1 : k0_off4 L 1 = 0 := by rw [k0_off4_eq]; rfl
  constructor
  · show k0_off4 L 0 + 1 * (z 0).val = wid L
    omega
  · show k0_off4 L 1 + 1 * (z 1).val = _
    omega

abbrev oRow1 (L : grid0.Coords) : Memref sig .scVector .hbm S16384 .f32 :=
  ((o1W : Memref sig .scVector .hbm S32x16384 .f32).slice (Rect.unit (s := S32x16384) (k0_off4 L) S1x16384.size (k0_off4_inb L)) (fun _ => rfl)).squeeze S16384 squeezes_S1x16384_S16384
omit [FloatOps F] in
theorem set_oRow1 : (oRow1 L).view.set = rowSet (cL L).val (jL L).val := by
  show ((((o1W : Memref sig .scVector .hbm S32x16384 .f32).view.slice (Rect.unit (s := S32x16384) (k0_off4 L) S1x16384.size (k0_off4_inb L)))).reshape S16384 squeezes_S1x16384_S16384.numel_eq).set = _
  rw [View.set_reshape]
  exact (View.set_slice_whole main_v2_0_scv _).trans (set_row L)
omit [FloatOps F] in
theorem pts_o1 (f : Buf (Elt F) (o1Loc d)) :
    ((oRow1 L).view.loc (thr d L) ↦[(oRow1 L).view.set]{fullShare} f : sProp 𝕄) = o1Loc d ↦[rowSet (cL L).val (jL L).val]{fullShare} f := by
  rw [set_oRow1]
omit [FloatOps F] in
theorem emb_oRow1 (y : S16384.Idx) : ((((oRow1 L).view.emb y : S32x16384.Idx) 0).val = wid L) ∧ ((((oRow1 L).view.emb y : S32x16384.Idx) 1).val = (y 0).val) :=
  emb_row L y
omit [FloatOps F] in
theorem read_oRow1 (G : S32x16384.Idx → F .f32) (y : S16384.Idx) : (oRow1 L).view.read (Elt F) G y = G ((oRow1 L).view.emb y) :=
  (View.read_apply _ _).trans (cast_eq _ _)
theorem row_written1 (f0 : S32x16384.Idx → F .f32) (C X : ℕ → F .f32) :
    (((oRow1 L).view.loc (thr d L) ↦[(oRow1 L).view.set]{fullShare}
      ((oRow1 L).view.writes (Elt F) f0 [⟨Rect.whole S16384, table C X (wid L) 5⟩])) : sProp 𝕄)
      = o1Loc d ↦[rowSet (cL L).val (jL L).val]{fullShare} rows C X := by
  rw [← pts_o1]
  refine pointsTo_congr fun i hi => ?_
  obtain ⟨y, -, rfl⟩ := Finset.mem_map.mp hi
  have h1 := congrFun (View.read_writes_whole (Val := Elt F) (oRow1 L).view f0 (table C X (wid L) 5)) y
  generalize (oRow1 L).view.writes (Elt F) f0 [⟨Rect.whole S16384, table C X (wid L) 5⟩] = G at h1 ⊢
  rw [read_oRow1] at h1
  rw [h1]
  obtain ⟨e0, e1⟩ := emb_oRow1 L y
  unfold rows
  rw [e0]
  congr 1
  funext a
  obtain rfl : a = 0 := Subsingleton.elim _ _
  exact Fin.ext e1.symm
abbrev oRow2 (L : grid0.Coords) : Memref sig .scVector .hbm S16384 .f32 :=
  ((o2W : Memref sig .scVector .hbm S32x16384 .f32).slice (Rect.unit (s := S32x16384) (k0_off4 L) S1x16384.size (k0_off4_inb L)) (fun _ => rfl)).squeeze S16384 squeezes_S1x16384_S16384
omit [FloatOps F] in
theorem set_oRow2 : (oRow2 L).view.set = rowSet (cL L).val (jL L).val := by
  show ((((o2W : Memref sig .scVector .hbm S32x16384 .f32).view.slice (Rect.unit (s := S32x16384) (k0_off4 L) S1x16384.size (k0_off4_inb L)))).reshape S16384 squeezes_S1x16384_S16384.numel_eq).set = _
  rw [View.set_reshape]
  exact (View.set_slice_whole main_v2_1_scv _).trans (set_row L)
omit [FloatOps F] in
theorem pts_o2 (f : Buf (Elt F) (o2Loc d)) :
    ((oRow2 L).view.loc (thr d L) ↦[(oRow2 L).view.set]{fullShare} f : sProp 𝕄) = o2Loc d ↦[rowSet (cL L).val (jL L).val]{fullShare} f := by
  rw [set_oRow2]
omit [FloatOps F] in
theorem emb_oRow2 (y : S16384.Idx) : ((((oRow2 L).view.emb y : S32x16384.Idx) 0).val = wid L) ∧ ((((oRow2 L).view.emb y : S32x16384.Idx) 1).val = (y 0).val) :=
  emb_row L y
omit [FloatOps F] in
theorem read_oRow2 (G : S32x16384.Idx → F .f32) (y : S16384.Idx) : (oRow2 L).view.read (Elt F) G y = G ((oRow2 L).view.emb y) :=
  (View.read_apply _ _).trans (cast_eq _ _)
theorem row_written2 (f0 : S32x16384.Idx → F .f32) (C X : ℕ → F .f32) :
    (((oRow2 L).view.loc (thr d L) ↦[(oRow2 L).view.set]{fullShare}
      ((oRow2 L).view.writes (Elt F) f0 [⟨Rect.whole S16384, table C X (wid L) 5⟩])) : sProp 𝕄)
      = o2Loc d ↦[rowSet (cL L).val (jL L).val]{fullShare} rows C X := by
  rw [← pts_o2]
  refine pointsTo_congr fun i hi => ?_
  obtain ⟨y, -, rfl⟩ := Finset.mem_map.mp hi
  have h1 := congrFun (View.read_writes_whole (Val := Elt F) (oRow2 L).view f0 (table C X (wid L) 5)) y
  generalize (oRow2 L).view.writes (Elt F) f0 [⟨Rect.whole S16384, table C X (wid L) 5⟩] = G at h1 ⊢
  rw [read_oRow2] at h1
  rw [h1]
  obtain ⟨e0, e1⟩ := emb_oRow2 L y
  unfold rows
  rw [e0]
  congr 1
  funext a
  obtain rfl : a = 0 := Subsingleton.elim _ _
  exact Fin.ext e1.symm
abbrev oRow3 (L : grid0.Coords) : Memref sig .scVector .hbm S16384 .f32 :=
  ((o3W : Memref sig .scVector .hbm S32x16384 .f32).slice (Rect.unit (s := S32x16384) (k0_off4 L) S1x16384.size (k0_off4_inb L)) (fun _ => rfl)).squeeze S16384 squeezes_S1x16384_S16384
omit [FloatOps F] in
theorem set_oRow3 : (oRow3 L).view.set = rowSet (cL L).val (jL L).val := by
  show ((((o3W : Memref sig .scVector .hbm S32x16384 .f32).view.slice (Rect.unit (s := S32x16384) (k0_off4 L) S1x16384.size (k0_off4_inb L)))).reshape S16384 squeezes_S1x16384_S16384.numel_eq).set = _
  rw [View.set_reshape]
  exact (View.set_slice_whole main_v2_2_scv _).trans (set_row L)
omit [FloatOps F] in
theorem pts_o3 (f : Buf (Elt F) (o3Loc d)) :
    ((oRow3 L).view.loc (thr d L) ↦[(oRow3 L).view.set]{fullShare} f : sProp 𝕄) = o3Loc d ↦[rowSet (cL L).val (jL L).val]{fullShare} f := by
  rw [set_oRow3]
omit [FloatOps F] in
theorem emb_oRow3 (y : S16384.Idx) : ((((oRow3 L).view.emb y : S32x16384.Idx) 0).val = wid L) ∧ ((((oRow3 L).view.emb y : S32x16384.Idx) 1).val = (y 0).val) :=
  emb_row L y
omit [FloatOps F] in
theorem read_oRow3 (G : S32x16384.Idx → F .f32) (y : S16384.Idx) : (oRow3 L).view.read (Elt F) G y = G ((oRow3 L).view.emb y) :=
  (View.read_apply _ _).trans (cast_eq _ _)
theorem row_written3 (f0 : S32x16384.Idx → F .f32) (C X : ℕ → F .f32) :
    (((oRow3 L).view.loc (thr d L) ↦[(oRow3 L).view.set]{fullShare}
      ((oRow3 L).view.writes (Elt F) f0 [⟨Rect.whole S16384, table C X (wid L) 5⟩])) : sProp 𝕄)
      = o3Loc d ↦[rowSet (cL L).val (jL L).val]{fullShare} rows C X := by
  rw [← pts_o3]
  refine pointsTo_congr fun i hi => ?_
  obtain ⟨y, -, rfl⟩ := Finset.mem_map.mp hi
  have h1 := congrFun (View.read_writes_whole (Val := Elt F) (oRow3 L).view f0 (table C X (wid L) 5)) y
  generalize (oRow3 L).view.writes (Elt F) f0 [⟨Rect.whole S16384, table C X (wid L) 5⟩] = G at h1 ⊢
  rw [read_oRow3] at h1
  rw [h1]
  obtain ⟨e0, e1⟩ := emb_oRow3 L y
  unfold rows
  rw [e0]
  congr 1
  funext a
  obtain rfl : a = 0 := Subsingleton.elim _ _
  exact Fin.ext e1.symm

/-- The chunk loop before trip `k`: the tables hold the chunks below `k`; the inputs, the chunk buffers, the semaphores
    of the two fetches at zero, and what the task may wait for. -/
def inv2 (O : CellTallies nD τ sig (HIx 1)) (W : Waits sig (HIx 1)) (k : Nat) (_ : BitVec 32) : sProp 𝕄 :=
  iprop(tabs d L (table (cN m d) oneN (wid L) k) (table (cN m d) (cN m d) (wid L) k) (table (cN m d) (eN m d) (wid L) k)
    ∗ ((cW).view.loc (thr d L) ↦{shr (cL L) (jL L)} m (cLoc d)) ∗ ((eW).view.loc (thr d L) ↦{shr (cL L) (jL L)} m (eLoc d))
    ∗ (∃ f, (s0W).view.loc (thr d L) ↦{fullShare} f) ∗ (∃ f, (s1W).view.loc (thr d L) ↦{fullShare} f)
    ∗ Transfers.MayWaits (thr d L) (none : HIx 1) O
    ∗ semVal (thr d L, SemLoc.dma cc0_scoped0.sem) 0 ∗ semVal (thr d L, SemLoc.dma cc0_scoped1.sem) 0
    ∗ ∃ W', ⌜∀ p ∈ W', p ∈ W ∨ p.2 = none⌝ ∗ owes (thr d L) O W')

section Scatter
variable {α : Type}
theorem scat1 {iv : IVec S16 32} {v : Vec F S16 .f32} {mask : IVec S16 1} {f f' : S16384.Idx → F .f32}
    {h : ∀ a x, ((![iv] : Fin 1 → IVec S16 32) a x).toNat < S16384.size a}
    {hs : ((h1W : Memref sig .scVector .vmem S16384 .f32).access (.whole S16384)).Stores Finset.univ}
    {k : PUnit → Prog (TpuEff nD τ sig (Elt F) Λ₀ (thr d L).2) α} {Q : α → sProp 𝕄}
    (hf : storeIdx (F := F) (s := S16384) (e := .f32) (d := ![16]) f ![iv] v mask true h = f') :
    ((h1W).view.loc (thr d L) ↦{fullShare} f : sProp 𝕄)
      ⊢ iprop((((h1W).view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx (h1W : Memref sig .scVector .vmem S16384 .f32) ![iv] v mask true h hs >>= k) Q) := by
  subst hf
  have e : ∀ g : S16384.Idx → F .f32, ((((h1W : Memref sig .scVector .vmem S16384 .f32).access (.whole S16384)).loc (thr d L)
      ↦[((h1W : Memref sig .scVector .vmem S16384 .f32).access (.whole S16384)).set]{fullShare} g : sProp 𝕄)) = ((h1W).view.loc (thr d L) ↦{fullShare} g) := by
    intro g
    rw [show ((h1W : Memref sig .scVector .vmem S16384 .f32).access (.whole S16384)).set = Finset.univ from Memref.set_access_whole cc0_scratch2]
  have er : ∀ g : S16384.Idx → F .f32, ((h1W : Memref sig .scVector .vmem S16384 .f32).access (.whole S16384)).read (Elt F) g = g := fun g => Memref.read_access_whole (Elt F) cc0_scratch2 g
  have ew : ∀ g w : S16384.Idx → F .f32, ((h1W : Memref sig .scVector .vmem S16384 .f32).access (.whole S16384)).write (Elt F) g w Finset.univ = w := fun g w => Memref.write_access_whole_univ (Elt F) cc0_scratch2 g w
  have e2 : ((((h1W : Memref sig .scVector .vmem S16384 .f32).access (.whole S16384)).loc (thr d L)
      ↦[((h1W : Memref sig .scVector .vmem S16384 .f32).access (.whole S16384)).set]{fullShare}
        ((h1W : Memref sig .scVector .vmem S16384 .f32).access (.whole S16384)).write (Elt F) f (storeIdx (((h1W : Memref sig .scVector .vmem S16384 .f32).access (.whole S16384)).read (Elt F) f) ![iv] v mask true h) Finset.univ : sProp 𝕄))
      = ((h1W).view.loc (thr d L) ↦{fullShare} storeIdx (F := F) (s := S16384) (e := .f32) (d := ![16]) f ![iv] v mask true h) := by
    rw [ew, er]; exact e _
  iintro H Hk
  ihave H' := (Entails.of_eq (e f).symm) $$ H
  iapply (SparseCore.wp_vectorStoreIdx 𝒱₀ (thr d L) none Set.univ (base := (h1W : Memref sig .scVector .vmem S16384 .f32))) $$ H'
  iintro H
  iapply Hk
  iapply (Entails.of_eq e2); iexact H
theorem scat2 {iv : IVec S16 32} {v : Vec F S16 .f32} {mask : IVec S16 1} {f f' : S16384.Idx → F .f32}
    {h : ∀ a x, ((![iv] : Fin 1 → IVec S16 32) a x).toNat < S16384.size a}
    {hs : ((h2W : Memref sig .scVector .vmem S16384 .f32).access (.whole S16384)).Stores Finset.univ}
    {k : PUnit → Prog (TpuEff nD τ sig (Elt F) Λ₀ (thr d L).2) α} {Q : α → sProp 𝕄}
    (hf : storeIdx (F := F) (s := S16384) (e := .f32) (d := ![16]) f ![iv] v mask true h = f') :
    ((h2W).view.loc (thr d L) ↦{fullShare} f : sProp 𝕄)
      ⊢ iprop((((h2W).view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx (h2W : Memref sig .scVector .vmem S16384 .f32) ![iv] v mask true h hs >>= k) Q) := by
  subst hf
  have e : ∀ g : S16384.Idx → F .f32, ((((h2W : Memref sig .scVector .vmem S16384 .f32).access (.whole S16384)).loc (thr d L)
      ↦[((h2W : Memref sig .scVector .vmem S16384 .f32).access (.whole S16384)).set]{fullShare} g : sProp 𝕄)) = ((h2W).view.loc (thr d L) ↦{fullShare} g) := by
    intro g
    rw [show ((h2W : Memref sig .scVector .vmem S16384 .f32).access (.whole S16384)).set = Finset.univ from Memref.set_access_whole cc0_scratch3]
  have er : ∀ g : S16384.Idx → F .f32, ((h2W : Memref sig .scVector .vmem S16384 .f32).access (.whole S16384)).read (Elt F) g = g := fun g => Memref.read_access_whole (Elt F) cc0_scratch3 g
  have ew : ∀ g w : S16384.Idx → F .f32, ((h2W : Memref sig .scVector .vmem S16384 .f32).access (.whole S16384)).write (Elt F) g w Finset.univ = w := fun g w => Memref.write_access_whole_univ (Elt F) cc0_scratch3 g w
  have e2 : ((((h2W : Memref sig .scVector .vmem S16384 .f32).access (.whole S16384)).loc (thr d L)
      ↦[((h2W : Memref sig .scVector .vmem S16384 .f32).access (.whole S16384)).set]{fullShare}
        ((h2W : Memref sig .scVector .vmem S16384 .f32).access (.whole S16384)).write (Elt F) f (storeIdx (((h2W : Memref sig .scVector .vmem S16384 .f32).access (.whole S16384)).read (Elt F) f) ![iv] v mask true h) Finset.univ : sProp 𝕄))
      = ((h2W).view.loc (thr d L) ↦{fullShare} storeIdx (F := F) (s := S16384) (e := .f32) (d := ![16]) f ![iv] v mask true h) := by
    rw [ew, er]; exact e _
  iintro H Hk
  ihave H' := (Entails.of_eq (e f).symm) $$ H
  iapply (SparseCore.wp_vectorStoreIdx 𝒱₀ (thr d L) none Set.univ (base := (h2W : Memref sig .scVector .vmem S16384 .f32))) $$ H'
  iintro H
  iapply Hk
  iapply (Entails.of_eq e2); iexact H
theorem scat3 {iv : IVec S16 32} {v : Vec F S16 .f32} {mask : IVec S16 1} {f f' : S16384.Idx → F .f32}
    {h : ∀ a x, ((![iv] : Fin 1 → IVec S16 32) a x).toNat < S16384.size a}
    {hs : ((h3W : Memref sig .scVector .vmem S16384 .f32).access (.whole S16384)).Stores Finset.univ}
    {k : PUnit → Prog (TpuEff nD τ sig (Elt F) Λ₀ (thr d L).2) α} {Q : α → sProp 𝕄}
    (hf : storeIdx (F := F) (s := S16384) (e := .f32) (d := ![16]) f ![iv] v mask true h = f') :
    ((h3W).view.loc (thr d L) ↦{fullShare} f : sProp 𝕄)
      ⊢ iprop((((h3W).view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx (h3W : Memref sig .scVector .vmem S16384 .f32) ![iv] v mask true h hs >>= k) Q) := by
  subst hf
  have e : ∀ g : S16384.Idx → F .f32, ((((h3W : Memref sig .scVector .vmem S16384 .f32).access (.whole S16384)).loc (thr d L)
      ↦[((h3W : Memref sig .scVector .vmem S16384 .f32).access (.whole S16384)).set]{fullShare} g : sProp 𝕄)) = ((h3W).view.loc (thr d L) ↦{fullShare} g) := by
    intro g
    rw [show ((h3W : Memref sig .scVector .vmem S16384 .f32).access (.whole S16384)).set = Finset.univ from Memref.set_access_whole cc0_scratch4]
  have er : ∀ g : S16384.Idx → F .f32, ((h3W : Memref sig .scVector .vmem S16384 .f32).access (.whole S16384)).read (Elt F) g = g := fun g => Memref.read_access_whole (Elt F) cc0_scratch4 g
  have ew : ∀ g w : S16384.Idx → F .f32, ((h3W : Memref sig .scVector .vmem S16384 .f32).access (.whole S16384)).write (Elt F) g w Finset.univ = w := fun g w => Memref.write_access_whole_univ (Elt F) cc0_scratch4 g w
  have e2 : ((((h3W : Memref sig .scVector .vmem S16384 .f32).access (.whole S16384)).loc (thr d L)
      ↦[((h3W : Memref sig .scVector .vmem S16384 .f32).access (.whole S16384)).set]{fullShare}
        ((h3W : Memref sig .scVector .vmem S16384 .f32).access (.whole S16384)).write (Elt F) f (storeIdx (((h3W : Memref sig .scVector .vmem S16384 .f32).access (.whole S16384)).read (Elt F) f) ![iv] v mask true h) Finset.univ : sProp 𝕄))
      = ((h3W).view.loc (thr d L) ↦{fullShare} storeIdx (F := F) (s := S16384) (e := .f32) (d := ![16]) f ![iv] v mask true h) := by
    rw [ew, er]; exact e _
  iintro H Hk
  ihave H' := (Entails.of_eq (e f).symm) $$ H
  iapply (SparseCore.wp_vectorStoreIdx 𝒱₀ (thr d L) none Set.univ (base := (h3W : Memref sig .scVector .vmem S16384 .f32))) $$ H'
  iintro H
  iapply Hk
  iapply (Entails.of_eq e2); iexact H
end Scatter

/-- A chunk buffer holds the elements of `C` from `base` on. -/
def Holds (C : ℕ → F .f32) (g : S25016.Idx → F .f32) (base : ℕ) : Prop := ∀ j : S25016.Idx, (j 0).val < 25000 → g j = C (base + (j 0).val)

theorem Holds.vec0 {C : ℕ → F .f32} {g : S25016.Idx → F .f32} {base : ℕ} (hg : Holds C g base) {off : Fin 1 → ℕ} (h : ∀ a, off a + S16.size a ≤ S25016.size a)
    (o : ℕ) (ho : off = ![o]) (l : Fin 16) (hl : o + l.val < 25000) :
    (s0W : Memref sig .scVector .vmem S25016 .f32).view.readAt (Elt F) (Rect.unit (s := S25016) off S16.size h).toLoadRect g (lane l) = C (base + o + l.val) := by
  subst ho
  rw [View.readAt_apply]
  have e : (((Rect.unit (s := S25016) ![o] S16.size h).toLoadRect.idx (lane l) : S25016.Idx) 0).val = o + l.val := by
    show o + 1 * l.val = _
    omega
  refine (hg ((Rect.unit (s := S25016) ![o] S16.size h).toLoadRect.idx (lane l)) (by rw [e]; exact hl)).trans ?_
  rw [e, Nat.add_assoc]
theorem Holds.vec1 {C : ℕ → F .f32} {g : S25016.Idx → F .f32} {base : ℕ} (hg : Holds C g base) {off : Fin 1 → ℕ} (h : ∀ a, off a + S16.size a ≤ S25016.size a)
    (o : ℕ) (ho : off = ![o]) (l : Fin 16) (hl : o + l.val < 25000) :
    (s1W : Memref sig .scVector .vmem S25016 .f32).view.readAt (Elt F) (Rect.unit (s := S25016) off S16.size h).toLoadRect g (lane l) = C (base + o + l.val) :=
  hg.vec0 h o ho l hl

/-- A chunk fetched to the start of a chunk buffer. -/
theorem holds_writes0 {C : ℕ → F .f32} {g : S25016.Idx → F .f32} {base : ℕ} {p : S25000.Idx → F .f32} (hp : ∀ x, p x = C (base + (x 0).val)) :
    Holds C ((s0W : Memref sig .scVector .vmem S25016 .f32).view.writes (Elt F) g [⟨Rect.unit ![0] S25000.size inb_S25016_S25000_0, p⟩]) base := by
  intro j hj
  have e := View.read_writes_cons_unit_of_mem (Val := Elt F) (s0W : Memref sig .scVector .vmem S25016 .f32).view g (off' := ![0]) inb_S25016_S25000_0 p [] j
    (Shape.ofLane (d := ![25000]) (⟨(j 0).val, hj⟩ : Fin 25000)) rfl (fun (a : Fin 1) => by
      obtain rfl : a = 0 := Subsingleton.elim _ _
      exact (Nat.zero_add _).symm)
  simp only [Memref.view_whole, View.read_whole] at e ⊢
  rw [e]
  exact hp _
theorem holds_writes1 {C : ℕ → F .f32} {g : S25016.Idx → F .f32} {base : ℕ} {p : S25000.Idx → F .f32} (hp : ∀ x, p x = C (base + (x 0).val)) :
    Holds C ((s1W : Memref sig .scVector .vmem S25016 .f32).view.writes (Elt F) g [⟨Rect.unit ![0] S25000.size inb_S25016_S25000_0, p⟩]) base := by
  intro j hj
  have e := View.read_writes_cons_unit_of_mem (Val := Elt F) (s1W : Memref sig .scVector .vmem S25016 .f32).view g (off' := ![0]) inb_S25016_S25000_0 p [] j
    (Shape.ofLane (d := ![25000]) (⟨(j 0).val, hj⟩ : Fin 25000)) rfl (fun (a : Fin 1) => by
      obtain rfl : a = 0 := Subsingleton.elim _ _
      exact (Nat.zero_add _).symm)
  simp only [Memref.view_whole, View.read_whole] at e ⊢
  rw [e]
  exact hp _

omit [FloatOps F] in
theorem chunk_pos (k : Fin k0_t2_loop.trips) (x : S25000.Idx) :
    ((((Rect.unit (s := S4000000) (k0_off2 L k) S25000.size (k0_off2_inb L k)).emb x : S4000000.Idx)) 0).val = (125000 * wid L + 25000 * k.val + (x 0).val) % 4000000 := by
  have e : k0_off2 L k 0 = 250000 * (L 1).val + 125000 * (L 0).val + 25000 * k.val := by rw [k0_off2_eq]; rfl
  have h1 : (L 1).val < 16 := (L 1).isLt
  have h0 : (L 0).val < 2 := (L 0).isLt
  have hk : k.val < 5 := k.isLt.trans_le k0_t2_abs.2.1
  have hx : (x 0).val < 25000 := (x 0).isLt
  show k0_off2 L k 0 + 1 * (x 0).val = (125000 * (2 * (L 1).val + (L 0).val) + 25000 * k.val + (x 0).val) % 4000000
  rw [Nat.mod_eq_of_lt (by omega)]
  omega

theorem chunk_c (k : Fin k0_t2_loop.trips) (x : S25000.Idx) :
    ((cW : Memref sig .scVector .hbm S4000000 .f32).slice (Rect.unit (s := S4000000) (k0_off2 L k) S25000.size (k0_off2_inb L k)) (fun _ => rfl)).view.read (Elt F) (m (cLoc d)) x
      = cN m d (125000 * wid L + 25000 * k.val + (x 0).val) := by
  refine congrArg (m (cLoc d)) (funext fun (a : Fin 1) => ?_)
  obtain rfl : a = 0 := Subsingleton.elim _ _
  apply Fin.ext
  exact chunk_pos L k x
theorem chunk_e (k : Fin k0_t2_loop.trips) (x : S25000.Idx) :
    ((eW : Memref sig .scVector .hbm S4000000 .f32).slice (Rect.unit (s := S4000000) (k0_off2 L k) S25000.size (k0_off2_inb L k)) (fun _ => rfl)).view.read (Elt F) (m (eLoc d)) x
      = eN m d (125000 * wid L + 25000 * k.val + (x 0).val) := by
  refine congrArg (m (eLoc d)) (funext fun (a : Fin 1) => ?_)
  obtain rfl : a = 0 := Subsingleton.elim _ _
  apply Fin.ext
  exact chunk_pos L k x

theorem zero_writes (f : S16384.Idx → F .f32) (k : Fin k0_t1_loop.trips) (j : S16384.Idx)
    (hj : (j 0).val < 16 * (k.val + 1)) (hf : (j 0).val < 16 * k.val → f j = FloatOps.ofBits .f32 0x00000000#32) :
    (h1W : Memref sig .scVector .vmem S16384 .f32).view.writes (Elt F) f [⟨Rect.unit (s := S16384) (k0_off1 k) S16.size (k0_off1_inb k), k0_pay1 (F := F)⟩] j = FloatOps.ofBits .f32 0x00000000#32 := by
  have e := View.read_writes_cons_unit (Val := Elt F) (h1W : Memref sig .scVector .vmem S16384 .f32).view f (off' := ![16 * k.val]) (k0_off1_inb k) (k0_pay1 (F := F)) [] j (k0_off1_eq k)
  refine e.trans ?_
  split
  · rfl
  · next hn =>
    refine hf ?_
    by_contra hc
    apply hn
    intro (a : Fin 1)
    obtain rfl : a = 0 := Subsingleton.elim _ _
    show 16 * k.val ≤ (j 0).val ∧ (j 0).val < 16 * k.val + 16
    omega

/-- The vector loop of chunk `n` before trip `t`. -/
def inv3 (n : ℕ) (g0 g1 : S25016.Idx → F .f32) (t : Nat) (_ : BitVec 32) : sProp 𝕄 :=
  iprop(tabs d L (tableIn (cN m d) oneN (wid L) n t) (tableIn (cN m d) (cN m d) (wid L) n t) (tableIn (cN m d) (eN m d) (wid L) n t)
    ∗ ((s0W).view.loc (thr d L) ↦{fullShare} g0) ∗ ((s1W).view.loc (thr d L) ↦{fullShare} g1))

omit [FloatOps F] in
theorem trips2 : Scf.trips k0_t2_loop.lb k0_t2_loop.ub k0_t2_loop.st = 5 := by decide
omit [FloatOps F] in
theorem trips3 : Scf.trips k0_t3_loop.lb k0_t3_loop.ub k0_t3_loop.st = 1562 := by decide

theorem tile_body (hF : (K (F := F)).Facts) (O : CellTallies nD τ sig (HIx 1)) (W : Waits sig (HIx 1)) (hO : ∀ g, O g none = 0) :
    iprop(levAts (K (F := F)).L (K (F := F)).lev ∗ emp ∗ goR m d (cL L) (jL L)
        ∗ scopedBufs (thr d L) ∗ scopedSems0 (thr d L) ∗ owes (thr d L) O W)
      ⊢ wp frame (wpE (defs₀ (F := F)) 𝒱₀ (thr d L) none) Set.univ
          (cc0_sc_hist L cW (Memref.isWhole_whole _) eW (Memref.isWhole_whole _) o1W (Memref.isWhole_whole _) o2W (Memref.isWhole_whole _) o3W (Memref.isWhole_whole _)
            s0W (Memref.isWhole_whole _) s1W (Memref.isWhole_whole _) h1W (Memref.isWhole_whole _) h2W (Memref.isWhole_whole _) h3W (Memref.isWhole_whole _)
            cc0_scoped0 cc0_scoped1 cc0_scoped2 cc0_scoped3 cc0_scoped4)
          fun _ => iprop(tdR m d (cL L) (jL L) ∗ scopedBufs (thr d L) ∗ scopedSems0 (thr d L)
            ∗ ∃ W', ⌜∀ p ∈ W', p ∈ W ∨ p.2 = none⌝ ∗ owes (thr d L) O W') := by
  simp only [cc0_sc_hist_eq_skeleton]; unfold cc0_sc_hist_skel
  simp only [k0_part1_eq_skeleton]; unfold k0_part1_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  unfold goR
  iintro ⟨#Hlv, -, ⟨Hc, He, Ho1, Ho2, Ho3⟩, ⟨⟨%fs0, Hs0⟩, ⟨%fs1, Hs1⟩, ⟨%f1, H1⟩, ⟨%f2, H2⟩, ⟨%f3, H3⟩, Hbufs⟩, ⟨Hm0, Hm1, Hm2, Hm3, Hm4, Hsems⟩, HO⟩
  ihave Hmw := ((K (F := F)).mayWaits_none (thr := thr d L) hO) $$ Hlv
  ihave H1' := (Entails.of_eq (pts_h1 (F := F) d L _).symm) $$ H1
  ihave H2' := (Entails.of_eq (pts_h2 (F := F) d L _).symm) $$ H2
  ihave H3' := (Entails.of_eq (pts_h3 (F := F) d L _).symm) $$ H3
  sl_for (inv1 (F := F) d L) $$ [H1' H2' H3']
  case region =>
    intro k _
    unfold inv1 tabs
    iintro ⟨%f1, %f2, %f3, %hf, H1, H2, H3⟩
    sl_exec
    sl_step
    iexists _, _, _
    isplitr
    rotate_left
    · isplitl [H1]; · iexact H1
      isplitl [H2]; · iexact H2
      iexact H3
    · ipureintro; intro j hj
      exact ⟨zero_writes f1 k j hj (fun h => (hf j h).1), zero_writes f2 k j hj (fun h => (hf j h).2.1), zero_writes f3 k j hj (fun h => (hf j h).2.2)⟩
  · unfold inv1 tabs
    iexists _, _, _
    isplitr
    rotate_left
    · isplitl [H1']; · iexact H1'
      isplitl [H2']; · iexact H2'
      iexact H3'
    · ipureintro; intro j hj; omega
  iintro %_ HI
  unfold inv1 tabs
  icases HI with ⟨%f1, %f2, %f3, %hf, H1, H2, H3⟩
  have hz : ∀ f : S16384.Idx → F .f32, (∀ j, f j = FloatOps.ofBits .f32 0x00000000#32) → ∀ V : ℕ → F .f32, f = table (cN m d) V (wid L) 0 := fun f hf V => funext fun j => (hf j).trans rfl
  obtain rfl := hz f1 (fun j => (hf j (j 0).isLt).1) oneN
  obtain rfl := hz f2 (fun j => (hf j (j 0).isLt).2.1) (cN m d)
  obtain rfl := hz f3 (fun j => (hf j (j 0).isLt).2.2) (eN m d)
  clear hf
  ihave Hc' := (Entails.of_eq (pts_c (F := F) d L _ _).symm) $$ Hc
  ihave He' := (Entails.of_eq (pts_e (F := F) d L _ _).symm) $$ He
  ihave Hs0' := (Entails.of_eq (pts_s0 (F := F) d L _).symm) $$ Hs0
  ihave Hs1' := (Entails.of_eq (pts_s1 (F := F) d L _).symm) $$ Hs1
  sl_for (inv2 m d L O W) $$ [H1 H2 H3 Hc' He' Hs0' Hs1' Hm0 Hm1 HO]
  case region =>
    intro k _
    unfold inv2 tabs
    iintro ⟨⟨H1, H2, H3⟩, Hc, He, ⟨%fs0, Hs0⟩, ⟨%fs1, Hs1⟩, #Hmw, Hm0, Hm1, %W', %hW', HO⟩
    sl_exec
    have hg0 : Holds (cN m d) ((s0W).view.writes (Elt F) fs0 [⟨Rect.unit ![0] S25000.size inb_S25016_S25000_0, tile_body.sl.dma0 m d L k⟩]) (125000 * wid L + 25000 * k.val) :=
      holds_writes0 (chunk_c m d L k)
    have hg1 : Holds (eN m d) ((s1W).view.writes (Elt F) fs1 [⟨Rect.unit ![0] S25000.size inb_S25016_S25000_0, tile_body.sl.dma0_1 m d L k⟩]) (125000 * wid L + 25000 * k.val) :=
      holds_writes1 (chunk_e m d L k)
    generalize (s0W).view.writes (Elt F) fs0 [⟨Rect.unit ![0] S25000.size inb_S25016_S25000_0, tile_body.sl.dma0 m d L k⟩] = g0 at hg0
    generalize (s1W).view.writes (Elt F) fs1 [⟨Rect.unit ![0] S25000.size inb_S25016_S25000_0, tile_body.sl.dma0_1 m d L k⟩] = g1 at hg1
    sl_for (inv3 m d L k.val g0 g1) $$ [H1 H2 H3 Hs0 Hs1]
    case region =>
      intro t _
      unfold inv3 tabs
      iintro ⟨⟨H1, H2, H3⟩, Hs0, Hs1⟩
      sl_exec (disch := exact chk1_pay6 _)
      have ht : t.val < 1562 := t.isLt.trans_le k0_t3_abs.2.1
      have hc := fun l : Fin 16 => hg0.vec0 (k0_off3_inb t) (16 * t.val) (k0_off3_eq t) l (by omega)
      have he := fun l : Fin 16 => hg1.vec1 (k0_off3_inb t) (16 * t.val) (k0_off3_eq t) l (by omega)
      iapply (scat1 d L (tableIn_step (cN m d) oneN (wid L) k.val t.val _ (k0_pay3 (F := F)) _ hc (fun _ => rfl))) $$ H1; iintro H1
      iapply (scat2 d L (tableIn_step (cN m d) (cN m d) (wid L) k.val t.val _ _ _ hc hc)) $$ H2; iintro H2
      iapply (scat3 d L (tableIn_step (cN m d) (eN m d) (wid L) k.val t.val _ _ _ hc he)) $$ H3; iintro H3
      sl_step
      isplitl [H1 H2 H3]
      · isplitl [H1]; · iexact H1
        isplitl [H2]; · iexact H2
        iexact H3
      isplitl [Hs0]; · iexact Hs0
      iexact Hs1
    · unfold inv3 tabs
      rw [tableIn_zero, tableIn_zero, tableIn_zero]
      isplitl [H1 H2 H3]
      · isplitl [H1]; · iexact H1
        isplitl [H2]; · iexact H2
        iexact H3
      isplitl [Hs0]; · iexact Hs0
      iexact Hs1
    iintro %_ HI
    unfold inv3 tabs
    rw [trips3]
    icases HI with ⟨⟨H1, H2, H3⟩, Hs0, Hs1⟩
    sl_exec (disch := exact chk2_pay7 _)
    have hc := fun (l : Fin 16) (hl : l.val < 8) => hg0.vec0 inb_S25016_S16_24992 24992 rfl l (by omega)
    have he := fun (l : Fin 16) (hl : l.val < 8) => hg1.vec1 inb_S25016_S16_24992 24992 rfl l (by omega)
    iapply (scat1 d L (tableIn_tail (cN m d) oneN (wid L) k.val _ (k0_pay3 (F := F)) _ hc (fun _ _ => rfl))) $$ H1; iintro H1
    iapply (scat2 d L (tableIn_tail (cN m d) (cN m d) (wid L) k.val _ _ _ hc hc)) $$ H2; iintro H2
    iapply (scat3 d L (tableIn_tail (cN m d) (eN m d) (wid L) k.val _ _ _ hc he)) $$ H3; iintro H3
    sl_step
    isplitl [H1 H2 H3]
    · isplitl [H1]; · iexact H1
      isplitl [H2]; · iexact H2
      iexact H3
    isplitl [Hc]; · iexact Hc
    isplitl [He]; · iexact He
    isplitl [Hs0]; · iexists _; iexact Hs0
    isplitl [Hs1]; · iexists _; iexact Hs1
    isplitr; · iexact Hmw
    isplitl [Hm0]; · iexact Hm0
    isplitl [Hm1]; · iexact Hm1
    iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      · exact hW' p hp
  · unfold inv2 tabs
    isplitl [H1 H2 H3]
    · isplitl [H1]; · iexact H1
      isplitl [H2]; · iexact H2
      iexact H3
    isplitl [Hc']; · iexact Hc'
    isplitl [He']; · iexact He'
    isplitl [Hs0']; · iexists _; iexact Hs0'
    isplitl [Hs1']; · iexists _; iexact Hs1'
    isplitr; · iexact Hmw
    isplitl [Hm0]; · iexact Hm0
    isplitl [Hm1]; · iexact Hm1
    iexists W; isplitr
    · ipureintro; exact fun p hp => .inl hp
    · iexact HO
  iintro %_ HI
  unfold inv2 tabs
  rw [trips2]
  icases HI with ⟨⟨H1, H2, H3⟩, Hc, He, ⟨%fs0, Hs0⟩, ⟨%fs1, Hs1⟩, -, Hm0, Hm1, %W', %hW', HO⟩
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  sl_exec
  sl_step
  unfold tdR
  isplitl [Hc He Ho1' Ho2' Ho3']
  · isplitl [Hc]; · iexact Hc
    isplitl [He]; · iexact He
    isplitl [Ho1']; · iapply (Entails.of_eq (row_written1 (F := F) d L _ _ _)); iexact Ho1'
    isplitl [Ho2']; · iapply (Entails.of_eq (row_written2 (F := F) d L _ _ _)); iexact Ho2'
    iapply (Entails.of_eq (row_written3 (F := F) d L _ _ _)); iexact Ho3'
  isplitl [Hs0 Hs1 H1 H2 H3 Hbufs]
  · isplitl [Hs0]; · iexists _; iexact Hs0
    isplitl [Hs1]; · iexists _; iexact Hs1
    isplitl [H1]; · iexists _; iexact H1
    isplitl [H2]; · iexists _; iexact H2
    isplitl [H3]; · iexists _; iexact H3
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp

end Tile

end Cert.Proof.KernelIdealTile
-- ==== Proof.KernelIdealRegion.lean ====
/-
  The TensorCore call: its body run by the executor, its proof data, and its segment over the thread state — every
  unscoped buffer of the TensorCore at a valuation, entered from any valuation and left with the result's array at the
  kernel's result.
-/
module

public import proofs.«01_k».proof.Proof.KernelIdealTile
public import proofs.«01_k».proof.Proof.Gen.KernelIdeal.Launch
public import proofs.«01_k».proof.Proof.Gen.KernelIdeal.Points
public import Idealize.ShloMosaic.Lib.Pipeline.RegionsLoop
public import Idealize.ShloMosaic.Lib.Tactic
public import Idealize.ShloMosaic.Lib.VecWindow
public import Idealize.ShloMosaic.Lib.Pipeline.Value

@[expose] public section

noncomputable section

namespace Cert.Proof.KernelIdealRegion

open Cert.KernelIdeal Cert.KernelIdeal.Gen Cert.Proof.KernelIdealTile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's result, from the five arrays it reads: the counts, the sums of the confidences and of the errors by row
    and bucket, the cuts and the widths. -/
def result (g0 g1 g2 : S512x1024.Idx → F .f32) (g3 : S16x1.Idx → F .f32) (g4 : S15x1.Idx → F .f32) : S1x1.Idx → F .f32 :=
  k1_pay1 (k1_pay6 g0 g1 g3) (k1_pay7 g0 g2 g3) (k1_pay8 g0 g2 g3) g4

theorem stored (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) :
    (View.loc (c : Thread nD τ) (stage1_5 0).view ↦{fullShare}
      (stage1_5 0).view.writes (Elt F) f5
        [⟨Rect.unit ![0, 0] S1x1.size inb_S1x1_S1x1_0_0,
          k1_pay1
            (k1_pay6
              (View.readAt (Elt F) (stage1_0 0).view (Rect.unit ![0, 0] S512x1024.size inb_S512x1024_S512x1024_0_0).toLoadRect f0)
              (View.readAt (Elt F) (stage1_1 0).view (Rect.unit ![0, 0] S512x1024.size inb_S512x1024_S512x1024_0_0).toLoadRect f1)
              (View.readAt (Elt F) (stage1_3 0).view (Rect.unit ![0, 0] S16x1.size inb_S16x1_S16x1_0_0).toLoadRect f3))
            (k1_pay7
              (View.readAt (Elt F) (stage1_0 0).view (Rect.unit ![0, 0] S512x1024.size inb_S512x1024_S512x1024_0_0).toLoadRect f0)
              (View.readAt (Elt F) (stage1_2 0).view (Rect.unit ![0, 0] S512x1024.size inb_S512x1024_S512x1024_0_0).toLoadRect f2)
              (View.readAt (Elt F) (stage1_3 0).view (Rect.unit ![0, 0] S16x1.size inb_S16x1_S16x1_0_0).toLoadRect f3))
            (k1_pay8
              (View.readAt (Elt F) (stage1_0 0).view (Rect.unit ![0, 0] S512x1024.size inb_S512x1024_S512x1024_0_0).toLoadRect f0)
              (View.readAt (Elt F) (stage1_2 0).view (Rect.unit ![0, 0] S512x1024.size inb_S512x1024_S512x1024_0_0).toLoadRect f2)
              (View.readAt (Elt F) (stage1_3 0).view (Rect.unit ![0, 0] S16x1.size inb_S16x1_S16x1_0_0).toLoadRect f3))
            (View.readAt (Elt F) (stage1_4 0).view (Rect.unit ![0, 0] S15x1.size inb_S15x1_S15x1_0_0).toLoadRect f4)⟩] : sProp 𝕄)
      = pt c (stage1_5 0) (result f0 f1 f2 f3 f4) := by
  have e0 : (View.readAt (Elt F) (stage1_0 0).view (Rect.unit ![0, 0] S512x1024.size inb_S512x1024_S512x1024_0_0).toLoadRect f0) = f0 :=
    View.readAt_full _ _ _
  have e1 : (View.readAt (Elt F) (stage1_1 0).view (Rect.unit ![0, 0] S512x1024.size inb_S512x1024_S512x1024_0_0).toLoadRect f1) = f1 :=
    View.readAt_full _ _ _
  have e2 : (View.readAt (Elt F) (stage1_2 0).view (Rect.unit ![0, 0] S512x1024.size inb_S512x1024_S512x1024_0_0).toLoadRect f2) = f2 :=
    View.readAt_full _ _ _
  have e3 : (View.readAt (Elt F) (stage1_3 0).view (Rect.unit ![0, 0] S16x1.size inb_S16x1_S16x1_0_0).toLoadRect f3) = f3 :=
    View.readAt_full _ _ _
  have e4 : (View.readAt (Elt F) (stage1_4 0).view (Rect.unit ![0, 0] S15x1.size inb_S15x1_S15x1_0_0).toLoadRect f4) = f4 :=
    View.readAt_full _ _ _
  rw [e0, e1, e2, e3, e4]
  have e5 (w : S1x1.Idx → F .f32) : (stage1_5 0).view.writes (Elt F) f5 [⟨Rect.unit ![0, 0] S1x1.size inb_S1x1_S1x1_0_0, w⟩] = w := by
    rw [View.writes_singleton]
    exact Memref.write_access_unit_zero_univ (Elt F) cc1_stg5_0 (by funext a; fin_cases a <;> rfl) _ f5 w
  rw [e5]; rfl

/-- The body from its six staging buffers held whole: the five inputs stay, the result's holds `result` of them. -/
theorem body_run (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4 ∗ pt c (stage1_5 0) f5
        ∗ (iprop(pt c (stage1_0 0) f0 ∗ pt c (stage1_1 0) f1 ∗ pt c (stage1_2 0) f2 ∗ pt c (stage1_3 0) f3 ∗ pt c (stage1_4 0) f4
            ∗ pt c (stage1_5 0) (result f0 f1 f2 f3 f4)) -∗ Q ⟨⟩))
      ⊢ wp frame (wpE (defs₀ (F := F)) Variants.none c none) E
          (cc1_body (stage1_0 0) (hstage1_0 0) (stage1_1 0) (hstage1_1 0) (stage1_2 0) (hstage1_2 0) (stage1_3 0) (hstage1_3 0)
            (stage1_4 0) (hstage1_4 0) (stage1_5 0) (hstage1_5 0)) Q := by
  rw [cc1_body_eq_skeleton]
  unfold cc1_body_skel
  rw [k1_part1_eq_skeleton]
  unfold k1_part1_skel
  iintro ⟨H0, H1, H2, H3, H4, H5, Hk⟩
  sl_exec
  sl_step
  ihave H5' := (Entails.of_eq (stored (F := F) c f0 f1 f2 f3 f4 f5)) $$ H5
  iapply Hk
  isplitl [H0]; · iexact H0
  isplitl [H1]; · iexact H1
  isplitl [H2]; · iexact H2
  isplitl [H3]; · iexact H3
  isplitl [H4]; · iexact H4
  iexact H5'

/-! ## The proof data, at an entry valuation -/

variable (V : (c : Dev nD) → (b : Ref sig .tc) → Buf (Elt F) ((c : Thread nD τ).loc b))

/-- The kernel's result at an entry valuation. -/
abbrev res (c : Dev nD) : S1x1.Idx → F .f32 :=
  result (F := F) (V c main_v3) (V c main_v4) (V c main_v5) (V c main_v0) (V c main_v1)

/-- The pairs the TensorCore has recorded before the call, and after it. -/
def recorded (c : Dev nD) : Set (SemLoc sig × HIx 1) := {p | (KernelIdealTile.K (F := F)).lev ((c : Thread nD τ), p.1) p.2 ≤ 8}

/-- Each window's one block is its whole array. -/
theorem emb0 (x : S512x1024.Idx) : ((cfg1.win 0).blk t1_0).view.emb x = x := by
  refine (show ((cfg1.win 0).blk t1_0).view.emb x = (win1_0.rect t1_0).emb x from rfl).trans (funext fun a => Fin.ext ?_)
  exact win1_0.rect_emb_val_of_index_zero t1_0 a rfl x
theorem read0 (f : S512x1024.Idx → F .f32) : ((cfg1.win 0).blk t1_0).view.read (Elt F) f = f :=
  funext fun x => congrArg f (emb0 x)
theorem emb1 (x : S512x1024.Idx) : ((cfg1.win 1).blk t1_0).view.emb x = x := by
  refine (show ((cfg1.win 1).blk t1_0).view.emb x = (win1_1.rect t1_0).emb x from rfl).trans (funext fun a => Fin.ext ?_)
  exact win1_1.rect_emb_val_of_index_zero t1_0 a rfl x
theorem read1 (f : S512x1024.Idx → F .f32) : ((cfg1.win 1).blk t1_0).view.read (Elt F) f = f :=
  funext fun x => congrArg f (emb1 x)
theorem emb2 (x : S512x1024.Idx) : ((cfg1.win 2).blk t1_0).view.emb x = x := by
  refine (show ((cfg1.win 2).blk t1_0).view.emb x = (win1_2.rect t1_0).emb x from rfl).trans (funext fun a => Fin.ext ?_)
  exact win1_2.rect_emb_val_of_index_zero t1_0 a rfl x
theorem read2 (f : S512x1024.Idx → F .f32) : ((cfg1.win 2).blk t1_0).view.read (Elt F) f = f :=
  funext fun x => congrArg f (emb2 x)
theorem emb3 (x : S16x1.Idx) : ((cfg1.win 3).blk t1_0).view.emb x = x := by
  refine (show ((cfg1.win 3).blk t1_0).view.emb x = (win1_3.rect t1_0).emb x from rfl).trans (funext fun a => Fin.ext ?_)
  exact win1_3.rect_emb_val_of_index_zero t1_0 a rfl x
theorem read3 (f : S16x1.Idx → F .f32) : ((cfg1.win 3).blk t1_0).view.read (Elt F) f = f :=
  funext fun x => congrArg f (emb3 x)
theorem emb4 (x : S15x1.Idx) : ((cfg1.win 4).blk t1_0).view.emb x = x := by
  refine (show ((cfg1.win 4).blk t1_0).view.emb x = (win1_4.rect t1_0).emb x from rfl).trans (funext fun a => Fin.ext ?_)
  exact win1_4.rect_emb_val_of_index_zero t1_0 a rfl x
theorem read4 (f : S15x1.Idx → F .f32) : ((cfg1.win 4).blk t1_0).view.read (Elt F) f = f :=
  funext fun x => congrArg f (emb4 x)
theorem emb5 (x : S1x1.Idx) : ((cfg1.win 5).blk t1_0).view.emb x = x := by
  refine (show ((cfg1.win 5).blk t1_0).view.emb x = (win1_5.rect t1_0).emb x from rfl).trans (funext fun a => Fin.ext ?_)
  exact win1_5.rect_emb_val_of_index_zero t1_0 a rfl x
theorem read5 (f : S1x1.Idx → F .f32) : ((cfg1.win 5).blk t1_0).view.read (Elt F) f = f :=
  funext fun x => congrArg f (emb5 x)

/-- The proof data: the arrays at the entry valuation; after the body the inputs as fetched and the result. -/
def dat (c : Dev nD) : Dat τ (Elt F) (HIx 1) ℕ UU ℕ cfg1 c where
  A w := V c (Pipeline.arrRef spec1 w)
  after w _ := match w with
    | ⟨0, _⟩ => V c main_v3
    | ⟨1, _⟩ => V c main_v4
    | ⟨2, _⟩ => V c main_v5
    | ⟨3, _⟩ => V c main_v0
    | ⟨4, _⟩ => V c main_v1
    | ⟨5, _⟩ => res V c
  Φ _ := Pipeline.scopedRest (Ix := HIx 1) (Name := ℕ) (U := UU) (Lvl := ℕ) (Val := Elt F) spec1 c
  q _ := fullShare
  owed _ := 0
  recorded _ := recorded (F := F) c

/-- The proof data of the program's one pipeline. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

theorem before0 (c : Dev nD) (d : (win1_0).block.Idx → Elt F .f32) : (dat V c).before 0 t1_0 d = V c main_v3 := by
  unfold Dat.before; rw [if_pos (by decide)]; exact read0 (F := F) _
theorem before1 (c : Dev nD) (d : (win1_1).block.Idx → Elt F .f32) : (dat V c).before 1 t1_0 d = V c main_v4 := by
  unfold Dat.before; rw [if_pos (by decide)]; exact read1 (F := F) _
theorem before2 (c : Dev nD) (d : (win1_2).block.Idx → Elt F .f32) : (dat V c).before 2 t1_0 d = V c main_v5 := by
  unfold Dat.before; rw [if_pos (by decide)]; exact read2 (F := F) _
theorem before3 (c : Dev nD) (d : (win1_3).block.Idx → Elt F .f32) : (dat V c).before 3 t1_0 d = V c main_v0 := by
  unfold Dat.before; rw [if_pos (by decide)]; exact read3 (F := F) _
theorem before4 (c : Dev nD) (d : (win1_4).block.Idx → Elt F .f32) : (dat V c).before 4 t1_0 d = V c main_v1 := by
  unfold Dat.before; rw [if_pos (by decide)]; exact read4 (F := F) _

/-- The body obligation: the staging buffers and the invariant taken apart, the run applied, its post reassembled. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before0] at h0
  rw [before1] at h1
  rw [before2] at h2
  rw [before3] at h3
  rw [before4] at h4
  subst h0 h1 h2 h3 h4
  iapply (body_run c (V c main_v3) (V c main_v4) (V c main_v5) (V c main_v0) (V c main_v1) f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array at the end holds the kernel's result. -/
theorem arrAt_out (c : Dev nD) : (dat V c).arrAt 5 cfg1.N = res V c := by
  refine (dat V c).arrAt_eq_of_cover 5 (res V c) (fun t _ => ?_) (fun i => ⟨t1_0, flush1_5 t1_0, ?_⟩)
  · obtain rfl := fin_N1 t
    exact (read5 (res V c)).symm
  · exact (emb5 i) ▸ ((cfg1.win 5).blk t1_0).view.emb_mem_set i

/-! ## The region over the thread state -/

/-- The TensorCore's unscoped references: what the thread state holds at a valuation. -/
def ucRefs : Finset (DevRef τ sig) := (StableHlo.tcRefs τ sig).filter fun b => ¬ b.isScoped

/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

abbrev Lv : GSem nD τ sig → Finset (HIx 1) := (KernelIdealTile.K (F := F)).L
abbrev lv : GSem nD τ sig → HIx 1 → ℕ := (KernelIdealTile.K (F := F)).lev

variable (adm : (p : Fin 1) → (pcfgs (F := F) p).Adm)
variable (Vp : (c : Dev nD) → (b : Ref sig .tc) → Buf (Elt F) ((c : Thread nD τ).loc b))

/-- The TensorCore owing nothing, its recorded pairs below the next call's floor. -/
def idle (c : Dev nD) : sProp 𝕄 :=
  iprop(∃ W, ⌜(KernelIdealTile.K (F := F)).WBelow (c : Thread nD τ) W 8⌝ ∗ owes (c : Thread nD τ) (0 : CellTallies nD τ sig (HIx 1)) W)

set_option backward.isDefEq.respectTransparency.types false in
/-- The call over the thread state "every unscoped buffer at `V c`, and nothing owed". -/
def reg (hVp_out : ∀ c, Vp c main_v6 = res V c)
    (hVp_ne : ∀ c (b : Ref sig .tc), b ≠ main_v6 → Vp c b = V c b) :
    Pipeline.RegionSeg (pcfgs (F := F)) adm (pdats V adm) (none : HIx 1) defs₀ 𝒱₀ (Lv (F := F)) (lv (F := F)) 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (Lv (F := F)) (lv (F := F)) 0 fun _ _ => rfl
  pre c := iprop(unscopedBufs c (V c) ∗ idle (F := F) c)
  post c := iprop(unscopedBufs c (Vp c) ∗ idle (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    unfold idle
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v3 (by decide)).symm
        · exact ((pdats V adm 0 c).arrAt_in 1 rfl _).trans (hVp_ne c main_v4 (by decide)).symm
        · exact ((pdats V adm 0 c).arrAt_in 2 rfl _).trans (hVp_ne c main_v5 (by decide)).symm
        · exact ((pdats V adm 0 c).arrAt_in 3 rfl _).trans (hVp_ne c main_v0 (by decide)).symm
        · exact ((pdats V adm 0 c).arrAt_in 4 rfl _).trans (hVp_ne c main_v1 (by decide)).symm
        · exact (arrAt_out V c).trans (hVp_out c).symm)
      (fun b hb => hVp_ne c b fun h => hb (h ▸ Finset.mem_image.mpr ⟨5, Finset.mem_univ _, rfl⟩))
    unfold idle
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.KernelIdealRegion

end
-- ==== Proof.KernelIdealLaunch.lean ====
/-
  The launch: the SparseCore task and the TensorCore call put together along @main, to the run of the whole program — its
  arguments unchanged, every semaphore counter at zero, and its result the TensorCore call's value of the tables the
  SparseCore tasks leave.
-/
module

public import proofs.«01_k».proof.Proof.KernelIdealRegion

@[expose] public section

noncomputable section

namespace Cert.Proof.KernelIdealLaunch

open Cert.KernelIdeal Cert.KernelIdeal.Gen Cert.Proof.KernelIdealTile Cert.Proof.KernelIdealRegion

open Idealize.ShloMosaic
open Idealize.ShloMosaic.SparseCore (S V T)
open Idealize.ShloMosaic.SparseCore.Cfg (HIx Pay)
open Idealize.ShloMosaic.StableHlo (held held_sub_split held_congr wp_hlo_within)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit pin)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_hist (coordsV c s)
          (Memref.whole main_arg0_scv) (Memref.isWhole_whole _) (Memref.whole main_arg1_scv) (Memref.isWhole_whole _)
          (Memref.whole main_v2_0_scv) (Memref.isWhole_whole _) (Memref.whole main_v2_1_scv) (Memref.isWhole_whole _)
          (Memref.whole main_v2_2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (KernelIdealTile.K (F := F)).Facts) : (KernelIdealTile.K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((KernelIdealTile.K (F := F)).core 0 c) ((KernelIdealTile.K (F := F)).sub 0 i)) 0 ())) _
  refine BI.Entails.trans ?_ (Pipeline.wp_liftProg (D (F := F)) (Pipeline.defs_kernel pcfgs defs₀) 𝒱₀ _ Set.univ none _ _)
  have hc : ((KernelIdealTile.K (F := F)).core 0 c).val < grid0.bound 0 ∧ ((KernelIdealTile.K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((KernelIdealTile.K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((KernelIdealTile.K (F := F)).nCore 0) => Φ (Fin.cast nCore_zero c)) = bigSep Finset.univ Φ :=
  bigSep_congr fun _ _ => congrArg Φ (Fin.ext rfl)

theorem vecSplit : (KernelIdealTile.K (F := F)).VecSplit' (P m) 0 := by
  intro d c
  show (bigSep Finset.univ fun i : Fin 16 => goR m d (Fin.cast nCore_zero c) i) ⊢ |={Set.univ}=> iprop(
      (bigSep Finset.univ fun i : Fin ((KernelIdealTile.K (F := F)).nSub 0) => goR m d (Fin.cast nCore_zero c) (Fin.cast nSub_zero i))
      ∗ ((bigSep Finset.univ fun i : Fin ((KernelIdealTile.K (F := F)).nSub 0) => tdR m d (Fin.cast nCore_zero c) (Fin.cast nSub_zero i))
          -∗ (bigSep Finset.univ fun i : Fin 16 => tdR m d (Fin.cast nCore_zero c) i)))
  rw [bigSep_tasks (F := F) (fun i => goR m d (Fin.cast nCore_zero c) i), bigSep_tasks (F := F) (fun i => tdR m d (Fin.cast nCore_zero c) i)]
  iintro H; imodintro
  isplitl [H]; · iexact H
  iintro H; iexact H

/-! ## The call's operands: the two inputs dealt into shares, the outputs cut into rows -/

omit [FloatOps F] in
theorem shares (ℓ : Loc nD τ sig) (f : Buf (Elt F) ℓ) :
    (bigSep Finset.univ fun c : Fin 2 => bigSep Finset.univ fun i : Fin 16 => (ℓ ↦{shr c i} f : sProp 𝕄)) = ℓ ↦{fullShare} f := by
  rw [Transfers.pointsTo_deal (S := Finset.univ) (Finset.univ : Finset (Fin 2)) Finset.univ_nonempty fullShare]
  refine bigSep_congr fun c _ => ?_
  exact (Transfers.pointsTo_deal (S := Finset.univ) (Finset.univ : Finset (Fin 16)) Finset.univ_nonempty _).symm

theorem rowSet_disjoint : ∀ t ∈ (Finset.univ : Finset (Fin 2 × Fin 16)), ∀ t' ∈ (Finset.univ : Finset (Fin 2 × Fin 16)), t ≠ t' →
    Disjoint (rowSet t.1.val t.2.val) (rowSet t'.1.val t'.2.val) := by
  intro t _ t' _ h
  refine Finset.disjoint_left.mpr fun x hx hx' => h ?_
  have e := (Finset.mem_filter.mp hx).2
  have e' := (Finset.mem_filter.mp hx').2
  have h1 := t.1.isLt; have h2 := t'.1.isLt
  refine Prod.ext (Fin.ext ?_) (Fin.ext ?_) <;> omega

theorem rowSet_cover : (Finset.univ : Finset (Fin 2 × Fin 16)).biUnion (fun t => rowSet t.1.val t.2.val) = Finset.univ := by
  refine Finset.eq_univ_iff_forall.mpr fun x => Finset.mem_biUnion.mpr ?_
  have hx : (x 0).val < 32 := (x 0).isLt
  refine ⟨(⟨(x 0).val % 2, Nat.mod_lt _ (by decide)⟩, ⟨(x 0).val / 2, by omega⟩), Finset.mem_univ _, Finset.mem_filter.mpr ⟨Finset.mem_univ _, ?_⟩⟩
  show (x 0).val = 2 * ((x 0).val / 2) + (x 0).val % 2
  omega

omit [FloatOps F] in
theorem rows_o1 (d : Dev nD) (f : Buf (Elt F) (o1Loc d)) :
    (bigSep Finset.univ fun c : Fin 2 => bigSep Finset.univ fun i : Fin 16 => (o1Loc d ↦[rowSet c i]{fullShare} f : sProp 𝕄)) = o1Loc d ↦{fullShare} f := by
  rw [← bigSep_univ_prod fun t : Fin 2 × Fin 16 => (o1Loc d ↦[rowSet t.1.val t.2.val]{fullShare} f : sProp 𝕄),
    ← pointsTo_biUnion Finset.univ (ℓ := o1Loc d) (fun t : Fin 2 × Fin 16 => rowSet t.1.val t.2.val) rowSet_disjoint, rowSet_cover]; try rfl
omit [FloatOps F] in
theorem rows_o2 (d : Dev nD) (f : Buf (Elt F) (o2Loc d)) :
    (bigSep Finset.univ fun c : Fin 2 => bigSep Finset.univ fun i : Fin 16 => (o2Loc d ↦[rowSet c i]{fullShare} f : sProp 𝕄)) = o2Loc d ↦{fullShare} f := by
  rw [← bigSep_univ_prod fun t : Fin 2 × Fin 16 => (o2Loc d ↦[rowSet t.1.val t.2.val]{fullShare} f : sProp 𝕄),
    ← pointsTo_biUnion Finset.univ (ℓ := o2Loc d) (fun t : Fin 2 × Fin 16 => rowSet t.1.val t.2.val) rowSet_disjoint, rowSet_cover]; try rfl
omit [FloatOps F] in
theorem rows_o3 (d : Dev nD) (f : Buf (Elt F) (o3Loc d)) :
    (bigSep Finset.univ fun c : Fin 2 => bigSep Finset.univ fun i : Fin 16 => (o3Loc d ↦[rowSet c i]{fullShare} f : sProp 𝕄)) = o3Loc d ↦{fullShare} f := by
  rw [← bigSep_univ_prod fun t : Fin 2 × Fin 16 => (o3Loc d ↦[rowSet t.1.val t.2.val]{fullShare} f : sProp 𝕄),
    ← pointsTo_biUnion Finset.univ (ℓ := o3Loc d) (fun t : Fin 2 × Fin 16 => rowSet t.1.val t.2.val) rowSet_disjoint, rowSet_cover]; try rfl

theorem st0_eq (d : Dev nD) : (bigSep Finset.univ fun c : Fin ((KernelIdealTile.K (F := F)).nCore 0) => (P m).st 0 d c)
    = iprop((cLoc d ↦{fullShare} m (cLoc d)) ∗ (eLoc d ↦{fullShare} m (eLoc d)) ∗ (o1Loc d ↦{fullShare} m (o1Loc d))
        ∗ (o2Loc d ↦{fullShare} m (o2Loc d)) ∗ (o3Loc d ↦{fullShare} m (o3Loc d))) := by
  rw [← shares (cLoc d), ← shares (eLoc d), ← rows_o1 d, ← rows_o2 d, ← rows_o3 d]
  refine (bigSep_cores (F := F) fun c => bigSep Finset.univ fun i : Fin 16 => goR m d c i).trans ?_
  simp only [goR, bigSep_sep']

theorem dn0_eq (d : Dev nD) : (bigSep Finset.univ fun c : Fin ((KernelIdealTile.K (F := F)).nCore 0) => (P m).dn 0 d c)
    = iprop((cLoc d ↦{fullShare} m (cLoc d)) ∗ (eLoc d ↦{fullShare} m (eLoc d)) ∗ (o1Loc d ↦{fullShare} rows (cN m d) oneN)
        ∗ (o2Loc d ↦{fullShare} rows (cN m d) (cN m d)) ∗ (o3Loc d ↦{fullShare} rows (cN m d) (eN m d))) := by
  rw [← shares (cLoc d), ← shares (eLoc d), ← rows_o1 d, ← rows_o2 d, ← rows_o3 d]
  refine (bigSep_cores (F := F) fun c => bigSep Finset.univ fun i : Fin 16 => tdR m d c i).trans ?_
  simp only [tdR, bigSep_sep']

/-! ## The launch element of the ghost state -/

/-- The pipeline's rounds, where the ghost state keeps them. -/
abbrev EP : Emb UPipe (MT nD τ sig (HIx 1) (Elt F) ℕ UU ℕ) := (Emb.inl : Emb UPipe (UPipe × Counters)).trans embR
/-- No pipeline prefetches a table. -/
abbrev adm : (p : Fin 1) → (pcfgs (F := F) p).Adm := fun p => (cfgs p).toPCfg_adm
abbrev pcf : Fin 1 → Pipeline.Cfg sig Λ₀ := pin (pcfgs (F := F)) adm
theorem hinj : Function.Injective (Pipeline.cellOf (nD := nD) (τ := τ) (pcf (F := F))) := cellOf_inj

def u₀ : UU := (initOf (KernelIdealTile.K (F := F)).hsCells (KernelIdealTile.K (F := F)).hsToks,
  (initOf (Pipeline.cells (pcf (F := F)) (hinj (F := F))) (Pipeline.launchToks (pcf (F := F)) (hinj (F := F))), 1))

/-- What the launch deals device `d`'s TensorCore: its pipeline's rounds. -/
def G (d : Dev nD) : sProp 𝕄 := iprop(cellsGhost (pcf (F := F)) EP 0 d ∗ toksInit (pcf (F := F)) EP 0 d)

theorem hu₀ : (ownU (u₀ (F := F)) : sProp 𝕄)
    ⊢ |={Set.univ}=> iprop(BI.own (EH (initOf (KernelIdealTile.K (F := F)).hsCells (KernelIdealTile.K (F := F)).hsToks)) ∗ (bigSep Finset.univ fun d : Dev nD => G (F := F) d)
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    exact (bigSep_congr fun _ _ => bigSep_emp_const _).trans (bigSep_emp_const _)
  unfold u₀
  rw [hx]
  iintro Hu
  ihave H := (ownU_pair _ _) $$ Hu
  icases H with ⟨HH, HK⟩
  ihave H := (own_pair_emb embR _ _) $$ HK
  icases H with ⟨HP, -⟩
  imod (Pipeline.fund_ghost (pcf (F := F)) EP (hinj (F := F))) $$ HP with ⟨Hg, Ht⟩
  imodintro
  isplitl [HH]; · iexact HH
  isplitl [Hg Ht]
  · unfold G
    rw [bigSep_sep']
    have h1 : ∀ Φ : Fin 1 → Dev nD → sProp 𝕄, (bigSep Finset.univ fun c : Dev nD => bigSep Finset.univ fun p : Fin 1 => Φ p c) = bigSep Finset.univ fun c : Dev nD => Φ 0 c :=
      fun Φ => bigSep_congr fun c _ => bigSep_univ_of_subsingleton (0 : Fin 1)
    ihave Hg' := (Entails.of_eq (h1 (fun p c => cellsGhost (pcf (F := F)) EP p c))) $$ Hg
    ihave Ht' := (Entails.of_eq (h1 (fun p c => toksInit (pcf (F := F)) EP p c))) $$ Ht
    isplitl [Hg']; · iexact Hg'
    iexact Ht'
  iempintro

/-! ## The values along @main -/

abbrev arg0' : DevRef τ sig := Proc.devRef .tc main_arg0
abbrev arg1' : DevRef τ sig := Proc.devRef .tc main_arg1
abbrev cst' : DevRef τ sig := Proc.devRef .tc main_cst
abbrev cst0' : DevRef τ sig := Proc.devRef .tc main_cst_0
abbrev v0' : DevRef τ sig := Proc.devRef .tc main_v0
abbrev v1' : DevRef τ sig := Proc.devRef .tc main_v1
abbrev v20' : DevRef τ sig := Proc.devRef .tc main_v2_0
abbrev v21' : DevRef τ sig := Proc.devRef .tc main_v2_1
abbrev v22' : DevRef τ sig := Proc.devRef .tc main_v2_2
abbrev v3' : DevRef τ sig := Proc.devRef .tc main_v3
abbrev v4' : DevRef τ sig := Proc.devRef .tc main_v4
abbrev v5' : DevRef τ sig := Proc.devRef .tc main_v5
abbrev v6' : DevRef τ sig := Proc.devRef .tc main_v6
abbrev v7' : DevRef τ sig := Proc.devRef .tc main_v7

abbrev op1 : HloOp τ sig (Elt F) := StableHlo.nullary main_cst (fun i => FloatOps.ofBits .f32 (lit0 (S16.rowMajor i)))
abbrev op2 : HloOp τ sig (Elt F) := StableHlo.nullary main_cst_0 (fun i => FloatOps.ofBits .f32 (lit1 (S15.rowMajor i)))
abbrev op3 : HloOp τ sig (Elt F) := StableHlo.reshape main_cst main_v0 (rfl : (.f32 : EltTy) = .f32) shapeCasts_S16_S16x1
abbrev op4 : HloOp τ sig (Elt F) := StableHlo.reshape main_cst_0 main_v1 (rfl : (.f32 : EltTy) = .f32) shapeCasts_S15_S15x1
abbrev op6 : HloOp τ sig (Elt F) := StableHlo.reshape main_v2_0 main_v3 (rfl : (.f32 : EltTy) = .f32) shapeCasts_S32x16384_S512x1024
abbrev op7 : HloOp τ sig (Elt F) := StableHlo.reshape main_v2_1 main_v4 (rfl : (.f32 : EltTy) = .f32) shapeCasts_S32x16384_S512x1024
abbrev op8 : HloOp τ sig (Elt F) := StableHlo.reshape main_v2_2 main_v5 (rfl : (.f32 : EltTy) = .f32) shapeCasts_S32x16384_S512x1024
abbrev op10 : HloOp τ sig (Elt F) := StableHlo.reshape main_v6 main_v7 (rfl : (.f32 : EltTy) = .f32) shapeCasts_S1x1_S_

theorem h1 : (op1 (F := F)).bufs ⊆ ucRefs := show ({cst'} : Finset (DevRef τ sig)) ⊆ ucRefs by decide
theorem h2 : (op2 (F := F)).bufs ⊆ ucRefs := show ({cst0'} : Finset (DevRef τ sig)) ⊆ ucRefs by decide
theorem h3 : (op3 (F := F)).bufs ⊆ ucRefs := show ({cst', v0'} : Finset (DevRef τ sig)) ⊆ ucRefs by decide
theorem h4 : (op4 (F := F)).bufs ⊆ ucRefs := show ({cst0', v1'} : Finset (DevRef τ sig)) ⊆ ucRefs by decide
theorem h6 : (op6 (F := F)).bufs ⊆ ucRefs := show ({v20', v3'} : Finset (DevRef τ sig)) ⊆ ucRefs by decide
theorem h7 : (op7 (F := F)).bufs ⊆ ucRefs := show ({v21', v4'} : Finset (DevRef τ sig)) ⊆ ucRefs by decide
theorem h8 : (op8 (F := F)).bufs ⊆ ucRefs := show ({v22', v5'} : Finset (DevRef τ sig)) ⊆ ucRefs by decide
theorem h10 : (op10 (F := F)).bufs ⊆ ucRefs := show ({v6', v7'} : Finset (DevRef τ sig)) ⊆ ucRefs by decide

/-- The launch valuation; before the SparseCore call; after it; before the TensorCore call; after it; at the end. -/
def V0 (d : Dev nD) : Valuation τ sig (Elt F) := fun b => m (d, b)
def V4 (d : Dev nD) : Valuation τ sig (Elt F) := (op4 (F := F)).result ((op3 (F := F)).result ((op2 (F := F)).result ((op1 (F := F)).result (V0 m d))))
def V5 (d : Dev nD) : Valuation τ sig (Elt F) :=
  Function.update (Function.update (Function.update (V4 m d) v20' (rows (cN m d) oneN)) v21' (rows (cN m d) (cN m d))) v22' (rows (cN m d) (eN m d))
def V8 (d : Dev nD) : Valuation τ sig (Elt F) := (op8 (F := F)).result ((op7 (F := F)).result ((op6 (F := F)).result (V5 m d)))
def V9 (d : Dev nD) : Valuation τ sig (Elt F) := Function.update (V8 m d) v6' (res (fun c (b : Ref sig .tc) => V8 m c b) d)
def V10 (d : Dev nD) : Valuation τ sig (Elt F) := (op10 (F := F)).result (V9 m d)

theorem V4_of (d : Dev nD) (b : DevRef τ sig) (hb : b ∉ ({cst', cst0', v0', v1'} : Finset (DevRef τ sig))) : V4 m d b = m (d, b) := by
  simp only [Finset.mem_insert, Finset.mem_singleton, not_or] at hb
  unfold V4
  rw [(op4 (F := F)).result_of_not_mem _ (show b ∉ ({v1'} : Finset (DevRef τ sig)) from fun h => hb.2.2.2 (Finset.mem_singleton.mp h)),
    (op3 (F := F)).result_of_not_mem _ (show b ∉ ({v0'} : Finset (DevRef τ sig)) from fun h => hb.2.2.1 (Finset.mem_singleton.mp h)),
    (op2 (F := F)).result_of_not_mem _ (show b ∉ ({cst0'} : Finset (DevRef τ sig)) from fun h => hb.2.1 (Finset.mem_singleton.mp h)),
    (op1 (F := F)).result_of_not_mem _ (show b ∉ ({cst'} : Finset (DevRef τ sig)) from fun h => hb.1 (Finset.mem_singleton.mp h))]
  rfl

/-- The cuts and the widths, as the host lays them out. -/
def cuts : S16x1.Idx → F .f32 := fun i => shapeCast S16x1 (fun i => FloatOps.ofBits .f32 (lit0 (S16.rowMajor i)) : S16.Idx → F .f32) shapeCasts_S16_S16x1 i
def widths : S15x1.Idx → F .f32 := fun i => shapeCast S15x1 (fun i => FloatOps.ofBits .f32 (lit1 (S15.rowMajor i)) : S15.Idx → F .f32) shapeCasts_S15_S15x1 i
/-- An output of the SparseCore call, one row per task and lane. -/
def tall (f : S32x16384.Idx → F .f32) : S512x1024.Idx → F .f32 := fun i => shapeCast S512x1024 f shapeCasts_S32x16384_S512x1024 i
/-- The program's result. -/
def out (d : Dev nD) : S_.Idx → F .f32 := fun i => shapeCast S_
  (result (tall (rows (cN m d) oneN)) (tall (rows (cN m d) (cN m d))) (tall (rows (cN m d) (eN m d))) cuts widths) shapeCasts_S1x1_S_ i

theorem V4_v0 (d : Dev nD) : V4 m d v0' = (cuts : S16x1.Idx → F .f32) := by
  unfold V4
  rw [(op4 (F := F)).result_of_not_mem _ (show v0' ∉ ({v1'} : Finset (DevRef τ sig)) by decide)]
  refine (StableHlo.reshape_result main_cst main_v0 _ _ _ _ _).trans ?_
  rw [(op2 (F := F)).result_of_not_mem _ (show cst' ∉ ({cst0'} : Finset (DevRef τ sig)) by decide)]
  rw [show (op1 (F := F)).result (V0 m d) cst' = _ from StableHlo.nullary_result main_cst _ _ _]
  rfl
theorem V4_v1 (d : Dev nD) : V4 m d v1' = (widths : S15x1.Idx → F .f32) := by
  unfold V4
  refine (StableHlo.reshape_result main_cst_0 main_v1 _ _ _ _ _).trans ?_
  rw [(op3 (F := F)).result_of_not_mem _ (show cst0' ∉ ({v0'} : Finset (DevRef τ sig)) by decide)]
  rw [show (op2 (F := F)).result ((op1 (F := F)).result (V0 m d)) cst0' = _ from StableHlo.nullary_result main_cst_0 _ _ _]
  rfl

theorem V5_of (d : Dev nD) (b : DevRef τ sig) (hb : b ∉ ({v20', v21', v22'} : Finset (DevRef τ sig))) : V5 m d b = V4 m d b := by
  simp only [Finset.mem_insert, Finset.mem_singleton, not_or] at hb
  unfold V5
  rw [Function.update_of_ne hb.2.2, Function.update_of_ne hb.2.1, Function.update_of_ne hb.1]
theorem V5_20 (d : Dev nD) : V5 m d v20' = rows (cN m d) oneN := by
  unfold V5
  rw [Function.update_of_ne (by decide), Function.update_of_ne (by decide), Function.update_self]
theorem V5_21 (d : Dev nD) : V5 m d v21' = rows (cN m d) (cN m d) := by
  unfold V5
  rw [Function.update_of_ne (by decide), Function.update_self]
theorem V5_22 (d : Dev nD) : V5 m d v22' = rows (cN m d) (eN m d) := by
  unfold V5
  rw [Function.update_self]

theorem V8_of (d : Dev nD) (b : DevRef τ sig) (hb : b ∉ ({v3', v4', v5'} : Finset (DevRef τ sig))) : V8 m d b = V5 m d b := by
  simp only [Finset.mem_insert, Finset.mem_singleton, not_or] at hb
  unfold V8
  rw [(op8 (F := F)).result_of_not_mem _ (show b ∉ ({v5'} : Finset (DevRef τ sig)) from fun h => hb.2.2 (Finset.mem_singleton.mp h)),
    (op7 (F := F)).result_of_not_mem _ (show b ∉ ({v4'} : Finset (DevRef τ sig)) from fun h => hb.2.1 (Finset.mem_singleton.mp h)),
    (op6 (F := F)).result_of_not_mem _ (show b ∉ ({v3'} : Finset (DevRef τ sig)) from fun h => hb.1 (Finset.mem_singleton.mp h))]
theorem V8_3 (d : Dev nD) : V8 m d v3' = tall (rows (cN m d) oneN) := by
  unfold V8
  rw [(op8 (F := F)).result_of_not_mem _ (show v3' ∉ ({v5'} : Finset (DevRef τ sig)) by decide),
    (op7 (F := F)).result_of_not_mem _ (show v3' ∉ ({v4'} : Finset (DevRef τ sig)) by decide)]
  refine (StableHlo.reshape_result main_v2_0 main_v3 _ _ _ _ _).trans ?_
  rw [V5_20]; rfl
theorem V8_4 (d : Dev nD) : V8 m d v4' = tall (rows (cN m d) (cN m d)) := by
  unfold V8
  rw [(op8 (F := F)).result_of_not_mem _ (show v4' ∉ ({v5'} : Finset (DevRef τ sig)) by decide)]
  refine (StableHlo.reshape_result main_v2_1 main_v4 _ _ _ _ _).trans ?_
  rw [(op6 (F := F)).result_of_not_mem _ (show v21' ∉ ({v3'} : Finset (DevRef τ sig)) by decide), V5_21]; rfl
theorem V8_5 (d : Dev nD) : V8 m d v5' = tall (rows (cN m d) (eN m d)) := by
  unfold V8
  refine (StableHlo.reshape_result main_v2_2 main_v5 _ _ _ _ _).trans ?_
  rw [(op7 (F := F)).result_of_not_mem _ (show v22' ∉ ({v4'} : Finset (DevRef τ sig)) by decide),
    (op6 (F := F)).result_of_not_mem _ (show v22' ∉ ({v3'} : Finset (DevRef τ sig)) by decide), V5_22]; rfl

theorem V10_of (d : Dev nD) (b : DevRef τ sig) (hb : b ∉ ({v6', v7'} : Finset (DevRef τ sig))) : V10 m d b = V8 m d b := by
  simp only [Finset.mem_insert, Finset.mem_singleton, not_or] at hb
  unfold V10 V9
  rw [(op10 (F := F)).result_of_not_mem _ (show b ∉ ({v7'} : Finset (DevRef τ sig)) from fun h => hb.2 (Finset.mem_singleton.mp h)),
    Function.update_of_ne hb.1]
theorem V10_arg0 (d : Dev nD) : V10 m d arg0' = m (cLoc d) := by
  rw [V10_of _ _ _ (by decide), V8_of _ _ _ (by decide), V5_of _ _ _ (by decide), V4_of _ _ _ (by decide)]
theorem V10_arg1 (d : Dev nD) : V10 m d arg1' = m (eLoc d) := by
  rw [V10_of _ _ _ (by decide), V8_of _ _ _ (by decide), V5_of _ _ _ (by decide), V4_of _ _ _ (by decide)]
theorem V10_7 (d : Dev nD) : V10 m d v7' = out m d := by
  unfold V10
  refine (StableHlo.reshape_result main_v6 main_v7 _ _ _ _ _).trans ?_
  unfold V9
  rw [Function.update_self]
  unfold res out
  dsimp only
  rw [V8_3, V8_4, V8_5, V8_of m d v0' (by decide), V8_of m d v1' (by decide), V5_of m d v0' (by decide), V5_of m d v1' (by decide), V4_v0, V4_v1]
  rfl

/-! ## @main -/

abbrev rLoc (d : Dev nD) : Loc nD τ sig := (SparseCore.T d).loc main_v7

/-- The SparseCore call's arrays. -/
abbrev S5 : Finset (DevRef τ sig) := {arg0', arg1', v20', v21', v22'}
theorem S5_sub : S5 ⊆ ucRefs := by decide

omit [FloatOps F] in
theorem held_S5 (d : Dev nD) (W : Valuation τ sig (Elt F)) :
    (held (T d) S5 W : sProp 𝕄)
      = iprop((cLoc d ↦{fullShare} W arg0') ∗ (eLoc d ↦{fullShare} W arg1') ∗ (o1Loc d ↦{fullShare} W v20')
          ∗ (o2Loc d ↦{fullShare} W v21') ∗ (o3Loc d ↦{fullShare} W v22')) := by
  unfold held S5
  rw [SparseCore.bigSep_insert' (by decide), SparseCore.bigSep_insert' (by decide), SparseCore.bigSep_insert' (by decide),
    SparseCore.bigSep_insert' (by decide), bigSep_singleton]

theorem call_in (d : Dev nD) : (held (T d) ucRefs (V4 m d) : sProp 𝕄)
    = iprop((bigSep Finset.univ fun c : Fin ((KernelIdealTile.K (F := F)).nCore 0) => (P m).st 0 d c) ∗ held (T d) (ucRefs \ S5) (V4 m d)) := by
  rw [held_sub_split _ S5_sub, held_S5, st0_eq, V4_of m d arg0' (by decide), V4_of m d arg1' (by decide), V4_of m d v20' (by decide),
    V4_of m d v21' (by decide), V4_of m d v22' (by decide)]
theorem call_out (d : Dev nD) : iprop((bigSep Finset.univ fun c : Fin ((KernelIdealTile.K (F := F)).nCore 0) => (P m).dn 0 d c) ∗ held (T d) (ucRefs \ S5) (V4 m d))
    = (held (T d) ucRefs (V5 m d) : sProp 𝕄) := by
  rw [held_sub_split _ S5_sub (V5 m d), held_S5, dn0_eq, V5_of m d arg0' (by decide), V5_of m d arg1' (by decide), V4_of m d arg0' (by decide),
    V4_of m d arg1' (by decide), V5_20, V5_21, V5_22,
    held_congr (T d) (S := ucRefs \ S5) (V := V5 m d) (V' := V4 m d) fun b hb => V5_of m d b fun h => (Finset.mem_sdiff.mp hb).2 (Finset.mem_insert_of_mem (Finset.mem_insert_of_mem h))]

/-- The arrays the claims read, out of all. -/
abbrev S3 : Finset (DevRef τ sig) := {arg0', arg1', v7'}
theorem S3_sub : S3 ⊆ ucRefs := by decide
/-- What @main leaves the claims. -/
abbrev FIN (d : Dev nD) : sProp 𝕄 := iprop((cLoc d ↦{fullShare} m (cLoc d)) ∗ (eLoc d ↦{fullShare} m (eLoc d)) ∗ (rLoc d ↦{fullShare} out m d))
theorem held_fin (d : Dev nD) : (held (T d) ucRefs (V10 m d) : sProp 𝕄) ⊢ FIN m d := by
  rw [held_sub_split _ S3_sub]
  unfold held S3
  rw [SparseCore.bigSep_insert' (by decide), SparseCore.bigSep_insert' (by decide), bigSep_singleton, V10_arg0, V10_arg1, V10_7]
  iintro ⟨H, -⟩
  iexact H

/-- The TensorCore call as the pipelines' program has it, -/
abbrev callTc : Prog (TpuEff nD τ sig (Elt F) (ΛP (F := F)) .tc) PUnit := .op (.customCall (Pipeline.entry 0) ()) .ret
/-- and on @main's thread. -/
theorem callTc_lift : (Prog.lift (.customCall (SparseCore.inner (Pipeline.entry 0)) ()) : Prog (TpuEff nD τ sig (Elt F) (SparseCore.Sig (ΛP (F := F)) 1) .tc) PUnit)
    = SparseCore.liftProg (callTc (F := F)) := rfl

theorem reg_pre (V Vp : (c : Dev nD) → (b : Ref sig .tc) → Buf (Elt F) ((c : Thread nD τ).loc b)) (a : (p : Fin 1) → (pcfgs (F := F) p).Adm) (ho) (hn) (c : Dev nD) :
    (reg V a Vp ho hn).pre c = iprop(unscopedBufs c (V c) ∗ idle (F := F) c) := rfl
theorem reg_post (V Vp : (c : Dev nD) → (b : Ref sig .tc) → Buf (Elt F) ((c : Thread nD τ).loc b)) (a : (p : Fin 1) → (pcfgs (F := F) p).Adm) (ho) (hn) (c : Dev nD) :
    (reg V a Vp ho hn).post c = iprop(unscopedBufs c (Vp c) ∗ idle (F := F) c) := rfl

/-- The TensorCore call on @main's thread. -/
theorem region_run [∀ e, Nonempty (Elt F e)] (d : Dev nD) (Φ : PUnit → sProp 𝕄) :
    iprop((iprop(boundary (T d) ∗ (held (T d) ucRefs (V9 m d) ∗ idle (F := F) d)) -∗ Φ ⟨⟩)
        ∗ boundary (T d) ∗ (held (T d) ucRefs (V8 m d) ∗ idle (F := F) d) ∗ levAts (Lv (F := F)) (lv (F := F)) ∗ G (F := F) d)
      ⊢ wp frame (wpE ((KernelIdealTile.K (F := F)).defs (D (F := F))) 𝒱 (SparseCore.T d) none) Set.univ
          (Prog.lift (.customCall (SparseCore.inner (Pipeline.entry 0)) ())) Φ := by
  rw [callTc_lift]
  have key := Pipeline.RegionSeg.wp (pcfgs (F := F)) adm (pdats (fun c (b : Ref sig .tc) => V8 m c b) adm) (none : HIx 1) (hinj (F := F)) EP defs₀ 𝒱₀
    (Lv (F := F)) (lv (F := F))
    (reg (fun c (b : Ref sig .tc) => V8 m c b) adm (fun c (b : Ref sig .tc) => V9 m c b)
      (fun c => by unfold V9; exact Function.update_self _ _ _)
      (fun c b hb => by unfold V9; exact Function.update_of_ne (fun h => hb (Proc.devRef_injective _ h)) _ _))
    d none (fun _ h => nomatch h) .ret Φ
  rw [reg_pre, reg_post, unscopedBufs_held d (V8 m d), unscopedBufs_held d (V9 m d)] at key
  unfold G
  iintro ⟨Hk, Hb, Hs, Hl, Hg⟩
  iapply ((KernelIdealTile.K (F := F)).wp_liftProg (D (F := F)) 𝒱 (T d) Set.univ none (callTc (F := F)) Φ)
  iapply key
  isplitl [Hk]
  · iintro H; rw [wp_ret]; imodintro; iapply Hk; iexact H
  isplitl [Hb]; · iexact Hb
  isplitl [Hs]; · iexact Hs
  isplitl [Hl]; · iexact Hl
  iexact Hg

theorem hmain [∀ e, Nonempty (Elt F e)] (κ : GSem nD τ sig → ℕ) (d : Dev nD) :
    iprop((KernelIdealTile.K (F := F)).ctx EH (P m) κ ∗ (KernelIdealTile.K (F := F)).tcSt EH d 0 ∗ (KernelIdealTile.K (F := F)).tcRes m ρ d ∗ G (F := F) d)
      ⊢ wp frame (wpE ((KernelIdealTile.K (F := F)).defs (D (F := F))) 𝒱 (SparseCore.T d) none) Set.univ (main d)
          fun _ => iprop((KernelIdealTile.K (F := F)).tcSt EH d 1 ∗ FIN m d ∗ (KernelIdealTile.K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d)]
  simp only [main, wp_bind, wp_pure]
  iintro ⟨#Hctx, Hst, ⟨Hb, Hheld, Hts, -⟩, HG⟩
  iapply (wp_hlo_within 𝒱 (SparseCore.T d) none Set.univ (op := op1) (S := ucRefs) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := ucRefs) h2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := ucRefs) h3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := ucRefs) h4
    (V := (op3 (F := F)).result ((op2 (F := F)).result ((op1 (F := F)).result (V0 m d))))) $$ [Hb Hheld]
  · isplitl [Hb] <;> iassumption
  iintro ⟨Hb, Hheld⟩
  rw [wp_ret]; imodintro
  -- the SparseCore call
  ihave Hh := (show (held (T d) ucRefs ((op4 (F := F)).result ((op3 (F := F)).result ((op2 (F := F)).result ((op1 (F := F)).result (V0 m d))))) : sProp 𝕄) ⊢ _
    from Entails.of_eq (call_in (F := F) m d)) $$ Hheld
  icases Hh with ⟨Hops, Hrest⟩
  iapply ((KernelIdealTile.K (F := F)).wp_run (D (F := F)) 𝒱 (EH := EH) (P := P m) κ d 0) $$ [Hst Hops Hrest Hb Hts HG]
  isplitr; · iexact Hctx
  isplitl [Hst]; · iexact Hst
  isplitl [Hops]; · iexact Hops
  iintro ⟨Hst, Hdn⟩
  ihave Hheld := (Entails.of_eq (call_out (F := F) m d)) $$ [Hdn Hrest]
  · isplitl [Hdn] <;> iassumption
  -- the three reshapes
  iapply (wp_hlo_within 𝒱 (SparseCore.T d) none Set.univ (op := op6) (S := ucRefs) h6 (V := V5 m d)) $$ [Hb Hheld]
  · isplitl [Hb] <;> iassumption
  iintro ⟨Hb, Hheld⟩
  rw [wp_ret]; imodintro
  iapply (wp_hlo_within 𝒱 (SparseCore.T d) none Set.univ (op := op7) (S := ucRefs) h7 (V := (op6 (F := F)).result (V5 m d))) $$ [Hb Hheld]
  · isplitl [Hb] <;> iassumption
  iintro ⟨Hb, Hheld⟩
  rw [wp_ret]; imodintro
  iapply (wp_hlo_within 𝒱 (SparseCore.T d) none Set.univ (op := op8) (S := ucRefs) h8 (V := (op7 (F := F)).result ((op6 (F := F)).result (V5 m d)))) $$ [Hb Hheld]
  · isplitl [Hb] <;> iassumption
  iintro ⟨Hb, Hheld⟩
  rw [wp_ret]; imodintro
  -- the TensorCore call
  unfold SparseCore.Cfg.tcSt
  icases Hst with ⟨⟨%W, %hW, HO⟩, Hst⟩
  ihave Hlev := (SparseCore.Cfg.ctx_levAts κ) $$ Hctx
  iapply (region_run m d)
  isplitr [Hb Hheld HO HG]
  swap
  · isplitl [Hb]; · iexact Hb
    isplitl [Hheld HO]
    · isplitl [Hheld]; · iexact Hheld
      unfold idle
      iexists W
      isplitr
      · ipureintro; exact hW
      · rw [← (KernelIdealTile.K (F := F)).Otc_end d (n := 1) le_rfl]; iexact HO
    isplitl [Hlev]; · iexact Hlev
    iexact HG
  iintro ⟨Hb, Hheld, HO⟩
  iapply (wp_hlo_within 𝒱 (SparseCore.T d) none Set.univ (op := op10) (S := ucRefs) h10 (V := V9 m d)) $$ [Hb Hheld]
  · isplitl [Hb] <;> iassumption
  iintro ⟨Hb, Hheld⟩
  rw [wp_ret]; imodintro; imodintro
  isplitl [HO Hst]
  · isplitl [HO]
    · unfold idle
      icases HO with ⟨%W', %hW', HO⟩
      iexists W'
      isplitr
      · ipureintro; exact hW'
      · rw [(KernelIdealTile.K (F := F)).Otc_end d (n := 1) le_rfl]; iexact HO
    iexact Hst
  isplitr [Hb Hts]
  · iapply (held_fin m d); iexact Hheld
  isplitl [Hb] <;> iassumption

/-! ## The run -/

/-- What the claims read of device `d`'s final state. -/
def fq (d : Dev nD) (s' : Phys nD τ sig (Elt F)) : Prop :=
  s'.mem.mem (rLoc d) = out m d ∧ s'.mem.mem (cLoc d) = m (cLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hc, He, Hr⟩, HSI⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := eLoc d) (I := Finset.univ) (q := fullShare) (f := m (eLoc d)))) $$ [HSI He]
  · isplitl [HSI] <;> iassumption
  icases H with ⟨%he, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => hc i (Finset.mem_univ i), funext fun i => he i (Finset.mem_univ i)⟩

def QC : PUnit × MemSt nD τ sig (Elt F) → Prop := fun r =>
  (∀ c : Dev nD, r.2.mem (rLoc c) = out m c ∧ r.2.mem (cLoc c) = m (cLoc c) ∧ r.2.mem (eLoc c) = m (eLoc c)) ∧ r.2.sem = fun _ => 0

/-- Every run of the program ends with its result at `out`, its arguments unchanged, every semaphore counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := KernelIdealTile.K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KernelIdealLaunch

end
-- ==== Proof.Frames.lean ====
/-
  The three frames: each program ends with its arguments unchanged and every semaphore counter at zero.
-/
module

public import proofs.«01_k».proof.Proof.KernelLaunch
public import proofs.«01_k».proof.Proof.KernelIdealLaunch
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

theorem frame_kernel : Cert.quiescent_Kernel := fun m ρ _ =>
  (θ_run Cert.Kernel.defs _ _).mono (fun _ h => ⟨fun c => (h.1 c).2, h.2⟩) (KernelLaunch.run_main (F := Bits) m ρ)

theorem frame_kernelIdeal : Cert.quiescent_KernelIdeal := fun m ρ _ =>
  (θ_run Cert.KernelIdeal.defs _ _).mono (fun _ h => ⟨fun c => (h.1 c).2, h.2⟩) (KernelIdealLaunch.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Maths.lean ====
/-
  The mathematics of the certificate, with no program in it: a sequence sorted by a key, cut by buckets of the key. Where
  every element is replaced by its bucket's average, the sum of a prefix of the sorted sequence is a weighted sum over
  the buckets, the weight of a bucket being how much of it the prefix reaches.
-/
module

public import Idealize.ShloMosaic.PureOps.Ideal.Laws
public import Mathlib.Algebra.BigOperators.Intervals

@[expose] public section

noncomputable section

namespace Cert.Proof.Maths

open Finset
open Idealize.ShloMosaic

/-! ## Counting in a sorted sequence -/

/-- A property that passes to earlier positions holds exactly of the first positions, as many as have it. -/
theorem down_iff (N : ℕ) (q : ℕ → Prop) [DecidablePred q] (hq : ∀ p p', p ≤ p' → p' < N → q p' → q p) (p : ℕ) (hp : p < N) :
    q p ↔ p < #{x ∈ range N | q x} := by
  constructor
  · intro h
    have hs : range (p + 1) ⊆ {x ∈ range N | q x} := by
      intro x hx
      rw [mem_range] at hx
      exact mem_filter.mpr ⟨mem_range.mpr (by omega), hq x p (by omega) hp h⟩
    have := card_le_card hs
    rw [card_range] at this
    omega
  · intro h
    by_contra hn
    have hs : {x ∈ range N | q x} ⊆ range p := by
      intro x hx
      obtain ⟨hx1, hx2⟩ := mem_filter.mp hx
      rw [mem_range] at hx1 ⊢
      by_contra hxp
      exact hn (hq p x (by omega) hx1 hx2)
    have := card_le_card hs
    rw [card_range] at this
    omega

/-- A permutation of the first `N` positions, and a key that does not decrease along it. -/
structure Sorted (N : ℕ) (k s : ℕ → ℕ) : Prop where
  lt : ∀ p, p < N → s p < N
  inj : ∀ p q, p < N → q < N → s p = s q → p = q
  mono : ∀ p q, p ≤ q → q < N → k (s p) ≤ k (s q)

theorem Sorted.image {N : ℕ} {k s : ℕ → ℕ} (h : Sorted N k s) : (range N).image s = range N := by
  refine eq_of_subset_of_card_le ?_ ?_
  · intro x hx
    obtain ⟨p, hp, rfl⟩ := mem_image.mp hx
    exact mem_range.mpr (h.lt p (mem_range.mp hp))
  · rw [card_image_of_injOn]
    intro p hp q hq e
    exact h.inj p q (mem_range.mp hp) (mem_range.mp hq) e

theorem Sorted.surj {N : ℕ} {k s : ℕ → ℕ} (h : Sorted N k s) (x : ℕ) (hx : x < N) : ∃ p, p < N ∧ s p = x := by
  have : x ∈ (range N).image s := by rw [h.image]; exact mem_range.mpr hx
  obtain ⟨p, hp, e⟩ := mem_image.mp this
  exact ⟨p, mem_range.mp hp, e⟩

theorem Sorted.card {N : ℕ} {k s : ℕ → ℕ} (h : Sorted N k s) (P : ℕ → Prop) [DecidablePred P] :
    #{p ∈ range N | P (s p)} = #{p ∈ range N | P p} := by
  refine card_bij (fun p _ => s p) ?_ ?_ ?_
  · intro p hp
    obtain ⟨h1, h2⟩ := mem_filter.mp hp
    exact mem_filter.mpr ⟨mem_range.mpr (h.lt p (mem_range.mp h1)), h2⟩
  · intro p hp q hq e
    exact h.inj p q (mem_range.mp (mem_filter.mp hp).1) (mem_range.mp (mem_filter.mp hq).1) e
  · intro x hx
    obtain ⟨h1, h2⟩ := mem_filter.mp hx
    obtain ⟨p, hp, rfl⟩ := h.surj x (mem_range.mp h1)
    exact ⟨p, mem_filter.mpr ⟨mem_range.mpr hp, h2⟩, rfl⟩

/-- The elements of bucket `b`, and those of the buckets before it. -/
def cnt (N : ℕ) (k : ℕ → ℕ) (b : ℕ) : ℕ := #{p ∈ range N | k p = b}
def below (N : ℕ) (k : ℕ → ℕ) (b : ℕ) : ℕ := #{p ∈ range N | k p < b}

theorem below_succ (N : ℕ) (k : ℕ → ℕ) (b : ℕ) : below N k (b + 1) = below N k b + cnt N k b := by
  unfold below cnt
  rw [← card_union_of_disjoint, ← filter_or]
  · refine congrArg card (filter_congr fun p _ => ?_)
    omega
  · rw [disjoint_filter]
    intro p _ h1 h2
    omega

/-- How much of bucket `b` the first `r` positions of the sorted sequence reach. -/
theorem Sorted.reach {N : ℕ} {k s : ℕ → ℕ} (h : Sorted N k s) (r b : ℕ) (hr : r ≤ N) :
    #{p ∈ range r | k (s p) = b} = min (cnt N k b) (r - below N k b) := by
  have h1 : ∀ p, p < N → (k (s p) < b ↔ p < below N k b) := by
    intro p hp
    have := down_iff N (fun p => k (s p) < b) (fun p p' e hp' hq => lt_of_le_of_lt (h.mono p p' e hp') hq) p hp
    rw [h.card (fun x => k x < b)] at this
    exact this
  have h2 : ∀ p, p < N → (k (s p) < b + 1 ↔ p < below N k (b + 1)) := by
    intro p hp
    have := down_iff N (fun p => k (s p) < b + 1) (fun p p' e hp' hq => lt_of_le_of_lt (h.mono p p' e hp') hq) p hp
    rw [h.card (fun x => k x < b + 1)] at this
    exact this
  rw [below_succ] at h2
  have e : {p ∈ range r | k (s p) = b} = Ico (below N k b) (min r (below N k b + cnt N k b)) := by
    ext p
    rw [mem_filter, mem_range, mem_Ico]
    constructor
    · rintro ⟨hp, hk⟩
      have a1 := h1 p (by omega)
      have a2 := h2 p (by omega)
      omega
    · rintro ⟨ha, hb⟩
      have a1 := h1 p (by omega)
      have a2 := h2 p (by omega)
      omega
  rw [e, Nat.card_Ico]
  omega

/-- The weight of bucket `b` in the first `r` positions. -/
def weight (N : ℕ) (k : ℕ → ℕ) (r b : ℕ) : ℕ := min (cnt N k b) (r - below N k b)

theorem Sorted.prefix_sum {N B : ℕ} {k s : ℕ → ℕ} (h : Sorted N k s) (hk : ∀ p, k p < B) (m : ℕ → ℝ) (r : ℕ) (hr : r ≤ N) :
    ∑ p ∈ range r, m (k (s p)) = ∑ b ∈ range B, (weight N k r b : ℝ) * m b := by
  rw [← sum_fiberwise_of_maps_to (s := range r) (t := range B) (g := fun p => k (s p)) (fun p _ => mem_range.mpr (hk _))]
  refine sum_congr rfl fun b _ => ?_
  rw [sum_congr rfl (g := fun _ => m b) (fun p hp => by rw [(mem_filter.mp hp).2])]
  rw [sum_const, h.reach r b hr, nsmul_eq_mul]
  rfl

theorem Sorted.slice_sum {N B : ℕ} {k s : ℕ → ℕ} (h : Sorted N k s) (hk : ∀ p, k p < B) (m : ℕ → ℝ) (r r' : ℕ)
    (hrr : r ≤ r') (hr : r' ≤ N) :
    ∑ p ∈ Ico r r', m (k (s p))
      = ∑ b ∈ range B, (weight N k r' b : ℝ) * m b - ∑ b ∈ range B, (weight N k r b : ℝ) * m b := by
  rw [← h.prefix_sum hk m r' hr, ← h.prefix_sum hk m r (by omega), sum_Ico_eq_sub _ hrr]

/-! ## Sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- An extended real that is a real. -/
def Fin' (x : EReal) : Prop := ∃ r : ℝ, x = (r : EReal)

theorem fin_iff (x : EReal) : Fin' x ↔ x ≠ ⊤ ∧ x ≠ ⊥ := by
  induction x with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

theorem fin_add {x y : EReal} : Fin' (x + y) ↔ Fin' x ∧ Fin' y := by
  induction x with
  | bot => simp [fin_iff]
  | top =>
    induction y with
    | bot => simp [fin_iff]
    | top => simp [fin_iff]
    | coe b => simp [fin_iff]
  | coe a =>
    induction y with
    | bot => simp [fin_iff]
    | top => simp [fin_iff]
    | coe b => rw [← EReal.coe_add]; exact ⟨fun _ => ⟨⟨a, rfl⟩, ⟨b, rfl⟩⟩, fun _ => ⟨a + b, rfl⟩⟩

theorem fin_neg {x : EReal} : Fin' (-x) ↔ Fin' x := by
  induction x with
  | bot => simp [fin_iff]
  | top => simp [fin_iff]
  | coe a => simp only [fin_iff, ← EReal.coe_neg]; simp

theorem fin_sub {x y : EReal} : Fin' (x - y) ↔ Fin' x ∧ Fin' y := by
  rw [sub_eq_add_neg, fin_add, fin_neg]

theorem fin_coe (r : ℝ) : Fin' (r : EReal) := ⟨r, rfl⟩

theorem fin_sum {ι : Type} (s : Finset ι) (f : ι → EReal) : Fin' (∑ i ∈ s, f i) ↔ ∀ i ∈ s, Fin' (f i) := by
  classical
  induction s using Finset.induction_on with
  | empty => simpa using fin_coe 0
  | insert a s ha ih => rw [sum_insert ha, fin_add, ih]; simp

theorem fin_mul_pos {r : ℝ} (hr : 0 < r) {x : EReal} : Fin' ((r : EReal) * x) ↔ Fin' x := by
  induction x with
  | bot => rw [EReal.coe_mul_bot_of_pos hr]
  | top => rw [EReal.coe_mul_top_of_pos hr]
  | coe a => rw [← EReal.coe_mul]; exact ⟨fun _ => fin_coe _, fun _ => fin_coe _⟩

theorem fin_div {w : ℝ} (hw : 0 < w) {x : EReal} : Fin' (Ideal.div x (w : EReal)) ↔ Fin' x := by
  rw [Ideal.div_coe hw.ne', mul_comm, fin_mul_pos (by positivity)]

theorem abs_not_fin {x : EReal} (h : ¬ Fin' x) : max x (-x) = ⊤ := by
  rw [fin_iff] at h
  induction x with
  | bot => simp
  | top => simp
  | coe a => exact absurd ⟨EReal.coe_ne_top a, EReal.coe_ne_bot a⟩ h

theorem abs_ne_bot (x : EReal) : max x (-x) ≠ ⊥ := by
  induction x with
  | bot => simp
  | top => simp
  | coe a => rw [← EReal.coe_neg]; exact (lt_of_lt_of_le (EReal.bot_lt_coe a) (le_max_left _ _)).ne'

theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [sum_insert ha, Ne, EReal.add_eq_bot_iff, not_or]
    exact ⟨h a (mem_insert_self a s), ih fun i hi => h i (mem_insert_of_mem hi)⟩

theorem sum_top {ι : Type} (s : Finset ι) (f : ι → EReal) (h : ∀ i ∈ s, f i ≠ ⊥) (ht : ∃ i ∈ s, ¬ Fin' (f i)) :
    ∑ i ∈ s, f i = ⊤ := by
  by_contra hn
  have : Fin' (∑ i ∈ s, f i) := (fin_iff _).mpr ⟨hn, sum_ne_bot s f h⟩
  rw [fin_sum] at this
  obtain ⟨i, hi, hf⟩ := ht
  exact hf (this i hi)

/-! ## The two results -/

/-- The values of `X` summed over bucket `b`. -/
def tot (N : ℕ) (k : ℕ → ℕ) (X : ℕ → EReal) (b : ℕ) : EReal := ∑ p ∈ range N, if k p = b then X p else 0

theorem tot_one (N : ℕ) (k : ℕ → ℕ) (b : ℕ) : tot N k (fun _ => 1) b = ((cnt N k b : ℝ) : EReal) := by
  have e : ∀ p, (if k p = b then (1 : EReal) else 0) = (((if k p = b then 1 else 0 : ℝ)) : EReal) := by
    intro p; split <;> simp
  unfold tot
  rw [sum_congr rfl (fun p _ => e p), ← coe_sum, cnt]
  simp

/-- The elements before bucket `b`, as the kernel counts them. -/
def before (N B : ℕ) (k : ℕ → ℕ) (b : ℕ) : EReal :=
  ∑ j ∈ range B, tot N k (fun _ => 1) j * (if j < b then 1 else 0)

theorem before_eq (N B : ℕ) (k : ℕ → ℕ) (b : ℕ) (hb : b ≤ B) : before N B k b = ((below N k b : ℝ) : EReal) := by
  have e : ∀ j, tot N k (fun _ => 1) j * (if j < b then 1 else 0) = (((if j < b then (cnt N k j : ℝ) else 0)) : EReal) := by
    intro j; rw [tot_one]; split <;> simp
  have e2 : ∀ j, (if j < b then ((cnt N k j : ℝ) : EReal) else 0) = (((if j < b then (cnt N k j : ℝ) else 0 : ℝ)) : EReal) := by
    intro j; split <;> simp
  unfold before
  rw [sum_congr rfl (fun j _ => (e j).trans (e2 j)), ← coe_sum]
  congr 1
  rw [← sum_filter]
  have e3 : {j ∈ range B | j < b} = range b := by
    ext j; rw [mem_filter, mem_range, mem_range]; omega
  rw [e3]
  clear e e2 e3 hb
  induction b with
  | zero => simp [below]
  | succ b ih => rw [sum_range_succ, ih, below_succ]; push_cast; rfl

/-- A bucket's average, as each program forms it. -/
def kmean (N : ℕ) (k : ℕ → ℕ) (X : ℕ → EReal) (b : ℕ) : EReal := Ideal.div (tot N k X b) (max (tot N k (fun _ => 1) b) 1)
def rmean (N : ℕ) (k : ℕ → ℕ) (X : ℕ → EReal) (b : ℕ) : EReal := Ideal.div (tot N k X b) (tot N k (fun _ => 1) b)

theorem kmean_eq (N : ℕ) (k : ℕ → ℕ) (X : ℕ → EReal) (b : ℕ) (h : 0 < cnt N k b) : kmean N k X b = rmean N k X b := by
  unfold kmean rmean
  rw [tot_one, max_eq_left]
  rw [← EReal.coe_one]
  exact EReal.coe_le_coe_iff.mpr (by exact_mod_cast h)

/-- The kernel's prefix sum at the cut `r`. -/
def part (N B : ℕ) (k : ℕ → ℕ) (X : ℕ → EReal) (r : ℕ) : EReal :=
  ∑ b ∈ range B, min (tot N k (fun _ => 1) b) (max 0 (((r : ℝ) : EReal) - before N B k b)) * kmean N k X b

theorem part_eq (N B : ℕ) (k : ℕ → ℕ) (X : ℕ → EReal) (r : ℕ) :
    part N B k X r = ∑ b ∈ range B, ((weight N k r b : ℝ) : EReal) * kmean N k X b := by
  unfold part
  refine sum_congr rfl fun b hb => ?_
  congr 1
  rw [before_eq N B k b (mem_range.mp hb).le, tot_one, ← EReal.coe_sub, ← EReal.coe_zero]
  unfold weight
  have e1 : max ((0 : ℝ) : EReal) (((r : ℝ) - (below N k b : ℝ) : ℝ) : EReal) = (((r - below N k b : ℕ) : ℝ) : EReal) := by
    by_cases hle : below N k b ≤ r
    · rw [max_eq_right, Nat.cast_sub hle]
      exact EReal.coe_le_coe_iff.mpr (by rw [sub_nonneg]; exact_mod_cast hle)
    · rw [max_eq_left, Nat.sub_eq_zero_of_le (by omega)]
      · simp
      · exact EReal.coe_le_coe_iff.mpr (by rw [sub_nonpos]; exact_mod_cast (by omega : r ≤ below N k b))
  rw [e1, Nat.cast_min]
  exact (EReal.coe_strictMono.monotone.map_min).symm

/-- The average gap of `n` slices cut at `cut`, from the slices' sums of the two columns. -/
def gaps (cut : ℕ → ℕ) (n : ℕ) (f g : ℕ → EReal) : EReal :=
  ∑ i ∈ range n,
    max (Ideal.div (f i) (((cut (i + 1) - cut i : ℕ) : ℝ) : EReal) - (1 - Ideal.div (g i) (((cut (i + 1) - cut i : ℕ) : ℝ) : EReal)))
      (-(Ideal.div (f i) (((cut (i + 1) - cut i : ℕ) : ℝ) : EReal) - (1 - Ideal.div (g i) (((cut (i + 1) - cut i : ℕ) : ℝ) : EReal))))

/-- The slices' sums: the kernel's, differences of its prefix sums; the reference's, of the sequence sorted by `s`. -/
def kslice (N B : ℕ) (k : ℕ → ℕ) (X : ℕ → EReal) (cut : ℕ → ℕ) (i : ℕ) : EReal :=
  part N B k X (cut (i + 1)) - part N B k X (cut i)
def rslice (N : ℕ) (k s : ℕ → ℕ) (X : ℕ → EReal) (cut : ℕ → ℕ) (i : ℕ) : EReal :=
  ∑ p ∈ Ico (cut i) (cut (i + 1)), rmean N k X (k (s p))

theorem gaps_top (cut : ℕ → ℕ) (n : ℕ) (f g : ℕ → EReal) (hc : ∀ i, i < n → cut i < cut (i + 1))
    (h : ∃ i, i < n ∧ ¬ (Fin' (f i) ∧ Fin' (g i))) : gaps cut n f g = ⊤ := by
  refine sum_top _ _ (fun i _ => abs_ne_bot _) ?_
  obtain ⟨i, hi, hn⟩ := h
  refine ⟨i, mem_range.mpr hi, ?_⟩
  have hw : (0 : ℝ) < ((cut (i + 1) - cut i : ℕ) : ℝ) := by
    have := hc i hi
    exact_mod_cast (by omega : 0 < cut (i + 1) - cut i)
  rw [abs_not_fin, fin_iff]
  · simp
  · rw [fin_sub, fin_sub, fin_div hw, fin_div hw]
    exact fun hh => hn ⟨hh.1, hh.2.2⟩

section agree
variable {N B n : ℕ} {k s : ℕ → ℕ} {cut : ℕ → ℕ}

theorem cnt_pos (p : ℕ) (hp : p < N) : 0 < cnt N k (k p) :=
  card_pos.mpr ⟨p, mem_filter.mpr ⟨mem_range.mpr hp, rfl⟩⟩

theorem cut_mono (hc : ∀ i, i < n → cut i < cut (i + 1)) (i : ℕ) (hi : i ≤ n) : cut i ≤ cut n := by
  induction n with
  | zero => rw [Nat.le_zero.mp hi]
  | succ n ih =>
    rcases Nat.lt_or_ge n i with h | h
    · rw [show i = n + 1 by omega]
    · exact (ih (fun j hj => hc j (by omega)) h).trans (hc n (by omega)).le

/-- The averages that matter are all reals: those of the buckets that hold something. -/
def AllFin (N : ℕ) (k : ℕ → ℕ) (X : ℕ → EReal) : Prop := ∀ b, 0 < cnt N k b → Fin' (rmean N k X b)

theorem part_real (r : ℕ) {X : ℕ → EReal} (hX : AllFin N k X) :
    part N B k X r = ((∑ b ∈ range B, (weight N k r b : ℝ) * (rmean N k X b).toReal : ℝ) : EReal) := by
  rw [part_eq, coe_sum]
  refine sum_congr rfl fun b _ => ?_
  by_cases h : 0 < cnt N k b
  · rw [kmean_eq N k X b h]
    obtain ⟨a, ha⟩ := hX b h
    rw [ha, EReal.toReal_coe, EReal.coe_mul]
  · have : weight N k r b = 0 := by unfold weight; omega
    rw [this]
    simp

theorem slice_eq (hs : Sorted N k s) (hk : ∀ p, k p < B) (hc : ∀ i, i < n → cut i < cut (i + 1)) (hN : cut n = N)
    {X : ℕ → EReal} (hX : AllFin N k X) (i : ℕ) (hi : i < n) : rslice N k s X cut i = kslice N B k X cut i := by
  have hle : cut (i + 1) ≤ N := hN ▸ cut_mono hc (i + 1) hi
  unfold kslice rslice
  rw [part_real _ hX, part_real _ hX, ← EReal.coe_sub,
    ← hs.slice_sum hk (fun b => (rmean N k X b).toReal) _ _ (hc i hi).le hle, coe_sum]
  refine sum_congr rfl fun p hp => ?_
  have hpN : p < N := (mem_Ico.mp hp).2.trans_le hle
  obtain ⟨a, ha⟩ := hX _ (cnt_pos (k := k) (s p) (hs.lt p hpN))
  rw [ha, EReal.toReal_coe]

theorem allFin_of_rslice (hs : Sorted N k s) (h0 : cut 0 = 0) (hc : ∀ i, i < n → cut i < cut (i + 1)) (hN : cut n = N)
    {X : ℕ → EReal} (h : ∀ i, i < n → Fin' (rslice N k s X cut i)) : AllFin N k X := by
  have hp : ∀ i, i ≤ n → ∀ p, p < cut i → Fin' (rmean N k X (k (s p))) := by
    intro i
    induction i with
    | zero => intro _ p hp; omega
    | succ i ih =>
      intro hi p hp
      by_cases hpi : p < cut i
      · exact ih (by omega) p hpi
      · exact (fin_sum _ _).mp (h i hi) p (mem_Ico.mpr ⟨by omega, hp⟩)
  intro b hb
  obtain ⟨x, hx⟩ := card_pos.mp hb
  obtain ⟨hx1, hx2⟩ := mem_filter.mp hx
  obtain ⟨p, hpN, rfl⟩ := hs.surj x (mem_range.mp hx1)
  rw [← hx2]
  exact hp n le_rfl p (by omega)

theorem weight_full (b : ℕ) : weight N k N b = cnt N k b := by
  have : below N k (b + 1) ≤ N := by
    unfold below
    exact (card_filter_le _ _).trans (card_range N).le
  rw [below_succ] at this
  unfold weight
  omega

theorem allFin_of_kslice (hk : ∀ p, k p < B) (hn : 0 < n) (hN : cut n = N) {X : ℕ → EReal}
    (h : ∀ i, i < n → Fin' (kslice N B k X cut i)) : AllFin N k X := by
  have h1 := (fin_sub.mp (h (n - 1) (by omega))).1
  rw [show n - 1 + 1 = n by omega, hN, part_eq, fin_sum] at h1
  intro b hb
  obtain ⟨x, hx⟩ := card_pos.mp hb
  obtain ⟨hx1, hx2⟩ := mem_filter.mp hx
  have h2 := h1 b (mem_range.mpr (hx2 ▸ hk x))
  rw [weight_full, fin_mul_pos (by exact_mod_cast hb), kmean_eq N k X b hb] at h2
  exact h2

/-- The two programs' sums of gaps agree, whatever the data: where an average is not a real, both are infinite. -/
theorem gaps_eq (hs : Sorted N k s) (hk : ∀ p, k p < B) (h0 : cut 0 = 0) (hc : ∀ i, i < n → cut i < cut (i + 1))
    (hN : cut n = N) (hn : 0 < n) (C E : ℕ → EReal) :
    gaps cut n (kslice N B k C cut) (kslice N B k E cut) = gaps cut n (rslice N k s C cut) (rslice N k s E cut) := by
  by_cases hf : AllFin N k C ∧ AllFin N k E
  · unfold gaps
    refine sum_congr rfl fun i hi => ?_
    rw [slice_eq hs hk hc hN hf.1 i (mem_range.mp hi), slice_eq hs hk hc hN hf.2 i (mem_range.mp hi)]
  · rw [gaps_top cut n _ _ hc, gaps_top cut n _ _ hc]
    · by_contra hh
      push Not at hh
      exact hf ⟨allFin_of_rslice hs h0 hc hN fun i hi => (hh i hi).1, allFin_of_rslice hs h0 hc hN fun i hi => (hh i hi).2⟩
    · by_contra hh
      push Not at hh
      exact hf ⟨allFin_of_kslice hk hn hN fun i hi => (hh i hi).1, allFin_of_kslice hk hn hN fun i hi => (hh i hi).2⟩

end agree

end Cert.Proof.Maths
-- ==== Proof.KernelTotals.lean ====
/-
  The histogram's tables over the extended reals: the word of one bucket, summed over all tasks and lanes, is the sum over
  all the elements of that bucket.
-/
module

public import proofs.«01_k».proof.Proof.KernelIdealLaunch
public import proofs.«01_k».proof.Proof.Maths
public import Idealize.ShloMosaic.Lib.ValueIdx
public import Idealize.ShloMosaic.Lib.IdealHost
public import Idealize.ShloMosaic.Lib.Pipeline.Value

@[expose] public section

noncomputable section

namespace Cert.Proof.KernelTotals

open Finset
open Cert.KernelIdeal Cert.KernelIdeal.Gen
open Idealize.ShloMosaic
open Cert.Proof.KernelIdealHist Cert.Proof.KernelIdealTile Cert.Proof.KernelIdealLaunch
open Cert.Proof.Maths

/-- A sum over `m` runs of `n`. -/
theorem sum_runs (g : ℕ → EReal) (m n : ℕ) : ∑ q ∈ range (n * m), g q = ∑ t ∈ range m, ∑ l ∈ range n, g (n * t + l) := by
  induction m with
  | zero => simp
  | succ m ih => rw [Nat.mul_succ, sum_range_add, ih, sum_range_succ]

/-- What an element contributes to the word of bucket `b`. -/
def share (C V : ℕ → EReal) (b p : ℕ) : EReal := if bucket (F := Ideal) (C p) = b then V p else 0

theorem bump_eq (b : ℕ) (c v a : EReal) : bump (F := Ideal) b c v a = a + (if bucket (F := Ideal) c = b then v else 0) := by
  unfold bump
  split
  · rfl
  · rw [add_zero]

theorem laneFold_eq (C V : ℕ → EReal) (base l b : ℕ) (a : EReal) (n : ℕ) :
    laneFold (F := Ideal) C V base l b a n = a + ∑ t ∈ range n, share C V b (base + 16 * t + l) := by
  induction n with
  | zero => simp [laneFold]
  | succ n ih => rw [laneFold, bump_eq, ih, sum_range_succ, add_assoc]; rfl

theorem chunkFold_eq (C V : ℕ → EReal) (w l b n : ℕ) :
    chunkFold (F := Ideal) C V w l b n = ∑ i ∈ range n, ∑ t ∈ range (vecs l), share C V b (125000 * w + 25000 * i + 16 * t + l) := by
  induction n with
  | zero => simp [chunkFold]
  | succ n ih => rw [chunkFold, laneFold_eq, ih, sum_range_succ]

/-- The lanes of one chunk together meet each of its positions once. -/
theorem lanes (g : ℕ → EReal) : ∑ l ∈ range 16, ∑ t ∈ range (vecs l), g (16 * t + l) = ∑ q ∈ range 25000, g q := by
  have e : ∀ l, ∑ t ∈ range (vecs l), g (16 * t + l)
      = ∑ t ∈ range 1562, g (16 * t + l) + (if l < 8 then g (16 * 1562 + l) else 0) := by
    intro l
    unfold vecs
    by_cases h : l < 8
    · rw [if_pos h, if_pos h, sum_range_succ]
    · rw [if_neg h, if_neg h, add_zero]
  rw [sum_congr rfl (fun l _ => e l), sum_add_distrib, sum_comm, ← sum_runs, show 25000 = 16 * 1562 + 8 from rfl, sum_range_add]
  congr 1
  rw [← sum_filter]
  refine sum_congr ?_ fun _ _ => rfl
  decide

theorem sum_chunkFold (C V : ℕ → EReal) (b : ℕ) :
    ∑ w ∈ range 32, ∑ l ∈ range 16, chunkFold (F := Ideal) C V w l b 5 = ∑ p ∈ range 4000000, share C V b p := by
  have e : ∀ w, ∑ l ∈ range 16, chunkFold (F := Ideal) C V w l b 5 = ∑ q ∈ range 125000, share C V b (125000 * w + q) := by
    intro w
    rw [sum_congr rfl (fun l _ => chunkFold_eq C V w l b 5), sum_comm, show 125000 = 25000 * 5 from rfl, sum_runs]
    refine sum_congr rfl fun i _ => ?_
    rw [← lanes]
    refine sum_congr rfl fun l _ => sum_congr rfl fun t _ => congrArg _ ?_
    omega
  rw [sum_congr rfl (fun w _ => e w), show 4000000 = 125000 * 32 from rfl, sum_runs]

theorem flat (r b : ℕ) : r / 16 * 16384 + (r % 16 * 1024 + b) = r * 1024 + b := by omega

/-- Word `b` of row `r` of the table of totals: task `r / 16`, lane `r % 16`. -/
theorem tall_apply (C V : ℕ → EReal) (r : Fin 512) (b : Fin 1024) :
    tall (rows (F := Ideal) C V) (ValueIdx.ix2 r b) = chunkFold (F := Ideal) C V (r.val / 16) (r.val % 16) b.val 5 := by
  have hr := r.isLt
  have hb := b.isLt
  have h1 : r.val / 16 < 32 := by omega
  have h2 : r.val % 16 * 1024 + b.val < 16384 := by omega
  refine (shapeCast_apply _ _ _ (ValueIdx.ix2 ⟨r.val / 16, h1⟩ ⟨r.val % 16 * 1024 + b.val, h2⟩) ?_).trans ?_
  · rw [Shape.rowMajor_val_two, Shape.rowMajor_val_two]
    exact flat r.val b.val
  · show chunkFold (F := Ideal) C V (r.val / 16) ((r.val % 16 * 1024 + b.val) / 1024) ((r.val % 16 * 1024 + b.val) % 1024) 5 = _
    congr 1 <;> omega

theorem sum_tall (C V : ℕ → EReal) (b : Fin 1024) :
    ∑ r : Fin 512, tall (rows (F := Ideal) C V) (ValueIdx.ix2 r b) = tot 4000000 (fun p => bucket (F := Ideal) (C p)) V b.val := by
  rw [sum_congr rfl (fun r _ => tall_apply C V r b),
    Fin.sum_univ_eq_sum_range (fun r => chunkFold (F := Ideal) C V (r / 16) (r % 16) b.val 5) 512,
    show 512 = 16 * 32 from rfl, sum_runs]
  refine Eq.trans ?_ (sum_chunkFold C V b.val)
  refine sum_congr rfl fun w _ => sum_congr rfl fun l hl => ?_
  have := mem_range.mp hl
  congr 1 <;> omega

end Cert.Proof.KernelTotals
-- ==== Proof.KernelTail.lean ====
/-
  The finalizing TensorCore call over the extended reals: each of its steps read at an index, and the whole as the gap
  formula of the totals.
-/
module

public import proofs.«01_k».proof.Proof.KernelTotals

@[expose] public section

noncomputable section

namespace Cert.Proof.KernelTail

open Finset
open Cert.KernelIdeal Cert.KernelIdeal.Gen
open Idealize.ShloMosaic Idealize.ShloMosaic.ValueIdx
open Cert.Proof.KernelIdealHist Cert.Proof.KernelIdealTile Cert.Proof.KernelIdealRegion Cert.Proof.KernelIdealLaunch
open Cert.Proof.Maths Cert.Proof.KernelTotals

/-- The sum of a table's column. -/
def col (g : S512x1024.Idx → EReal) (b : Fin 1024) : EReal := ∑ r : Fin 512, g (ix2 r b)

theorem colsum (g : S512x1024.Idx → EReal) (z : Fin 1) (b : Fin 1024) :
    shapeCast S1x1024 (multiReduction (F := Ideal) (φ := .f32) .add [0] S1024 (shapeCast S512x1024 g shapeCasts_S512x1024_S512x1024)
      0x00000000#32 reduces_S512x1024_S1024 (.inl rfl) rfl) shapeCasts_S1024_S1x1024 (ix2 z b) = col g b := by
  rw [shapeCast_self]
  refine (shapeCast_apply _ _ _ (ix1 b) ?_).trans ?_
  · rw [Shape.rowMajor_val_two, Shape.rowMajor_val_one]
    show b.val = z.val * 1024 + b.val
    have := z.isLt
    omega
  · refine (Ideal.multiReduction_add_single _ _ _ _ _ _).trans ?_
    refine sum_congr rfl fun k _ => congrArg g ?_
    funext a
    match a with
    | ⟨0, _⟩ => rfl
    | ⟨1, _⟩ => rfl

theorem pay2_apply (g : S512x1024.Idx → EReal) (z : Fin 1) (b : Fin 1024) : k1_pay2 (F := Ideal) g (ix2 z b) = col g b := colsum g z b

theorem pay3_apply (g : S512x1024.Idx → EReal) (z : Fin 1) (b : Fin 1024) : k1_pay3 (F := Ideal) g (ix2 z b) = max (col g b) 1 := by
  show max (k1_pay2 (F := Ideal) g (ix2 z b)) (Ideal.ofBits .f32 0x3F800000#32) = _
  rw [pay2_apply, Ideal.ofBits_one_f32]

/-- The rows above the diagonal of the square of ones. -/
theorem tri_apply (j b : Fin 1024) :
    (sitofp (F := Ideal) .f32 (extui 32 (cmpi .slt (iota .tc S1024x1024 32 [0] iota_S1024x1024_d0_w32)
      (iota .tc S1024x1024 32 [1] iota_S1024x1024_d1_w32)) natLt_1_32) : FVec Ideal S1024x1024 .f32) (ix2 j b) = if j.val < b.val then 1 else 0 := by
  rw [sitofp_apply, extui_apply]
  show (((((IntOp.cmpi .slt (iota .tc S1024x1024 32 [0] iota_S1024x1024_d0_w32 (ix2 j b))
    (iota .tc S1024x1024 32 [1] iota_S1024x1024_d1_w32 (ix2 j b))).setWidth 32).toInt : ℝ)) : EReal) = _
  rw [iota_single_apply, iota_single_apply]
  show (((((IntOp.cmpi .slt (BitVec.ofNat 32 j.val) (BitVec.ofNat 32 b.val)).setWidth 32).toInt : ℝ)) : EReal) = _
  have hj := j.isLt
  have hb := b.isLt
  have h1 : (BitVec.ofNat 32 j.val).toInt = j.val := by
    rw [BitVec.toInt_ofNat']; exact Int.bmod_eq_of_le (by omega) (by omega)
  have h2 : (BitVec.ofNat 32 b.val).toInt = b.val := by
    rw [BitVec.toInt_ofNat']; exact Int.bmod_eq_of_le (by omega) (by omega)
  by_cases h : j.val < b.val
  · have e : IntOp.cmpi .slt (BitVec.ofNat 32 j.val) (BitVec.ofNat 32 b.val) = 1#1 := by
      show BitVec.ofBool (BitVec.slt _ _) = 1#1
      rw [BitVec.slt_iff_toInt_lt.mpr (by omega)]; rfl
    rw [e, if_pos h]
    show (((1#32).toInt : ℝ) : EReal) = 1
    norm_num
  · have e : IntOp.cmpi .slt (BitVec.ofNat 32 j.val) (BitVec.ofNat 32 b.val) = 0#1 := by
      show BitVec.ofBool (BitVec.slt _ _) = 0#1
      have hf : (BitVec.ofNat 32 j.val).slt (BitVec.ofNat 32 b.val) = false :=
        Bool.eq_false_iff.mpr fun hh => h (by have := BitVec.slt_iff_toInt_lt.mp hh; omega)
      rw [hf]; rfl
    rw [e, if_neg h]
    show (((0#32).toInt : ℝ) : EReal) = 0
    norm_num

/-- The total of the columns before `b`. -/
def pre (g : S512x1024.Idx → EReal) (b : Fin 1024) : EReal := ∑ j : Fin 1024, col g j * (if j.val < b.val then 1 else 0)

theorem matmul_apply (g : S512x1024.Idx → EReal) (z : Fin 1) (b : Fin 1024) :
    (matmul (F := Ideal) dot_S1x1024_S1024x1024_S1x1024_1_0_0_1_n_n none (k1_pay2 (F := Ideal) g)
      (sitofp (F := Ideal) .f32 (extui 32 (cmpi .slt (iota .tc S1024x1024 32 [0] iota_S1024x1024_d0_w32)
        (iota .tc S1024x1024 32 [1] iota_S1024x1024_d1_w32)) natLt_1_32) : FVec Ideal S1024x1024 .f32)
      (constant S1x1024 .f32 0x00000000#32)) (ix2 z b) = pre g b := by
  refine (Ideal.matmul_constant_zero_apply _ _ _ _ _).trans ?_
  refine (Equiv.sum_comp (contrEquiv1 dot_S1x1024_S1024x1024_S1x1024_1_0_0_1_n_n 1024 rfl rfl).symm _).symm.trans ?_
  refine sum_congr rfl fun j _ => ?_
  congr 1
  · refine Eq.trans (congrArg _ ?_) (pay2_apply g z j)
    funext a
    match a with
    | ⟨0, _⟩ => rfl
    | ⟨1, _⟩ => rfl
  · refine Eq.trans (congrArg _ ?_) (tri_apply j b)
    funext a
    match a with
    | ⟨0, _⟩ => rfl
    | ⟨1, _⟩ => rfl

theorem bcastRow (x : S1x1024.Idx → EReal) (i : Fin 16) (b : Fin 1024) :
    broadcastTo S16x1024 x broadcasts_S1x1024_S16x1024 (ix2 i b) = x (ix2 0 b) :=
  broadcastTo_apply _ _ _ _ fun a => by
    match a with
    | ⟨0, _⟩ => rfl
    | ⟨1, _⟩ => rfl

theorem bcastCol (x : S16x1.Idx → EReal) (i : Fin 16) (b : Fin 1024) :
    broadcastTo S16x1024 x broadcasts_S16x1_S16x1024 (ix2 i b) = x (ix2 i 0) :=
  broadcastTo_apply _ _ _ _ fun a => by
    match a with
    | ⟨0, _⟩ => rfl
    | ⟨1, _⟩ => rfl

theorem pay4_apply (g : S512x1024.Idx → EReal) (v : S16x1.Idx → EReal) (i : Fin 16) (b : Fin 1024) :
    k1_pay4 (F := Ideal) g v (ix2 i b) = min (col g b) (max 0 (v (ix2 i 0) - pre g b)) := by
  unfold k1_pay4
  rw [minimumf_apply, maximumf_apply, subf_apply, bcastRow, bcastRow, bcastCol, pay2_apply, matmul_apply, shapeCast_self]
  show min _ (max (Ideal.ofBits .f32 0x00000000#32) _) = _
  rw [Ideal.ofBits_zero_f32]

/-- What the first `v i` elements in bucket order amount to, the elements of a bucket taken at their mean. -/
def acc (g0 g : S512x1024.Idx → EReal) (v : S16x1.Idx → EReal) (i : Fin 16) : EReal :=
  ∑ b : Fin 1024, min (col g0 b) (max 0 (v (ix2 i 0) - pre g0 b)) * Ideal.div (col g b) (max (col g0 b) 1)

theorem acc_apply (g0 g : S512x1024.Idx → EReal) (v : S16x1.Idx → EReal) (i : Fin 16) (z : Fin 1) :
    k1_pay5 (F := Ideal) g0 g v (ix2 i z) = acc g0 g v i := by
  unfold k1_pay5
  refine (shapeCast_apply _ _ _ (ix1 i) ?_).trans ?_
  · rw [Shape.rowMajor_val_two, Shape.rowMajor_val_one]
    show i.val = i.val * 1 + z.val
    have := z.isLt
    omega
  · refine (Ideal.multiReduction_add_single _ _ _ _ _ _).trans ?_
    have key : ∀ b : Fin 1024, mulf (F := Ideal) (φ := .f32) (k1_pay4 (F := Ideal) g0 v) (broadcastTo S16x1024 (divf (F := Ideal) (φ := .f32)
        (shapeCast S1x1024 (multiReduction (F := Ideal) (φ := .f32) .add [0] S1024 (shapeCast S512x1024 g shapeCasts_S512x1024_S512x1024)
          0x00000000#32 reduces_S512x1024_S1024 (.inl rfl) rfl) shapeCasts_S1024_S1x1024) (k1_pay3 (F := Ideal) g0))
        broadcasts_S1x1024_S16x1024) ((reduces_S16x1024_S16).lift (ix1 i) b)
        = min (col g0 b) (max 0 (v (ix2 i 0) - pre g0 b)) * Ideal.div (col g b) (max (col g0 b) 1) := by
      intro b
      have e : (reduces_S16x1024_S16).lift (ix1 i) b = (ix2 i b : S16x1024.Idx) := by
        funext a
        match a with
        | ⟨0, _⟩ => rfl
        | ⟨1, _⟩ => rfl
      rw [e, mulf_apply, pay4_apply, bcastRow, divf_apply, pay3_apply, colsum]
    exact sum_congr rfl fun b _ => key b

theorem pay6_eq (g0 g : S512x1024.Idx → EReal) (v : S16x1.Idx → EReal) :
    k1_pay6 (F := Ideal) g0 g v = subf (k1_pay7 (F := Ideal) g0 g v) (k1_pay8 (F := Ideal) g0 g v) := rfl

theorem pay7_apply (g0 g : S512x1024.Idx → EReal) (v : S16x1.Idx → EReal) (i : Fin 15) (z : Fin 1) :
    k1_pay7 (F := Ideal) g0 g v (ix2 i z) = acc g0 g v i.succ := by
  unfold k1_pay7
  refine (extractStridedSlice_apply _ _ _ _ (ix2 i.succ z) fun a => ?_).trans (acc_apply g0 g v i.succ z)
  match a with
  | ⟨0, _⟩ => show i.val + 1 = 1 + i.val; omega
  | ⟨1, _⟩ => show z.val = 0 + z.val; omega

theorem pay8_apply (g0 g : S512x1024.Idx → EReal) (v : S16x1.Idx → EReal) (i : Fin 15) (z : Fin 1) :
    k1_pay8 (F := Ideal) g0 g v (ix2 i z) = acc g0 g v i.castSucc := by
  unfold k1_pay8
  refine (extractStridedSlice_apply _ _ _ _ (ix2 i.castSucc z) fun a => ?_).trans (acc_apply g0 g v i.castSucc z)
  match a with
  | ⟨0, _⟩ => show i.val = 0 + i.val; omega
  | ⟨1, _⟩ => show z.val = 0 + z.val; omega

/-- `15.0` of the program. -/
theorem ofBits_fifteen : Ideal.ofBits .f32 0x41700000#32 = ((15 : ℝ) : EReal) := by
  simp [Ideal.ofBits, Ideal.ieee, -EReal.coe_mul]; norm_num

theorem pay1_apply (x y z w : S15x1.Idx → EReal) (i : S1x1.Idx) :
    k1_pay1 (F := Ideal) x y z w i
      = Ideal.div (∑ n : Fin 15, max (Ideal.div (x (ix2 n 0)) (w (ix2 n 0)) - (1 - Ideal.div (y (ix2 n 0) - z (ix2 n 0)) (w (ix2 n 0))))
          (-(Ideal.div (x (ix2 n 0)) (w (ix2 n 0)) - (1 - Ideal.div (y (ix2 n 0) - z (ix2 n 0)) (w (ix2 n 0))))))
        ((15 : ℝ) : EReal) := by
  unfold k1_pay1
  show Ideal.div (multiReduction (F := Ideal) .add [1, 2] S1 _ 0x00000000#32 reduces_S1x15x1_S1 (.inl rfl) rfl _) (Ideal.ofBits .f32 0x41700000#32) = _
  rw [ofBits_fifteen]
  congr 1
  refine (Ideal.multiReduction_add_total _ _ _ (fun b => ?_) _ _ _).trans ?_
  · match b with
    | ⟨0, _⟩ => rfl
  · refine (Equiv.sum_comp (Shape.reshapeEquiv shapeCasts_S15x1_S1x15x1) _).trans ?_
    rw [sum_idx2]
    refine sum_congr rfl fun n _ => ?_
    rw [Fin.sum_univ_one]
    rw [shapeCast_self]
    show max (Ideal.div _ _ - (Ideal.ofBits .f32 0x3F800000#32 - _)) (-(Ideal.div _ _ - (Ideal.ofBits .f32 0x3F800000#32 - _))) = _
    rw [Ideal.ofBits_one_f32]
    rfl

end Cert.Proof.KernelTail
-- ==== Proof.KernelValue.lean ====
/-
  The kernel's result over the extended reals: the mean gap of the bucket-averaged data, cut at the positions of the program.
-/
module

public import proofs.«01_k».proof.Proof.KernelTail

@[expose] public section

noncomputable section

namespace Cert.Proof.KernelValue

open Finset
open Cert.KernelIdeal Cert.KernelIdeal.Gen
open Idealize.ShloMosaic Idealize.ShloMosaic.ValueIdx
open Cert.Proof.KernelIdealHist Cert.Proof.KernelIdealTile Cert.Proof.KernelIdealRegion Cert.Proof.KernelIdealLaunch
open Cert.Proof.Maths Cert.Proof.KernelTotals Cert.Proof.KernelTail

/-- The first position of the `i`-th of fifteen slices. -/
def cut (i : ℕ) : ℕ := i * 4000000 / 15

/-- The bucket of a position. -/
def key (C : ℕ → EReal) (p : ℕ) : ℕ := bucket (F := Ideal) (C p)

/-- The constants of the program. -/
theorem at1 : Ideal.ofBits .f32 0x48823540#32 = (((266666 : ℕ) : ℝ) : EReal) := by
  simp [Ideal.ofBits, Ideal.ieee, -EReal.coe_mul]; norm_num
theorem at2 : Ideal.ofBits .f32 0x49023550#32 = (((533333 : ℕ) : ℝ) : EReal) := by
  simp [Ideal.ofBits, Ideal.ieee, -EReal.coe_mul]; norm_num
theorem at3 : Ideal.ofBits .f32 0x49435000#32 = (((800000 : ℕ) : ℝ) : EReal) := by
  simp [Ideal.ofBits, Ideal.ieee, -EReal.coe_mul]; norm_num
theorem at4 : Ideal.ofBits .f32 0x49823550#32 = (((1066666 : ℕ) : ℝ) : EReal) := by
  simp [Ideal.ofBits, Ideal.ieee, -EReal.coe_mul]; norm_num
theorem at5 : Ideal.ofBits .f32 0x49A2C2A8#32 = (((1333333 : ℕ) : ℝ) : EReal) := by
  simp [Ideal.ofBits, Ideal.ieee, -EReal.coe_mul]; norm_num
theorem at6 : Ideal.ofBits .f32 0x49C35000#32 = (((1600000 : ℕ) : ℝ) : EReal) := by
  simp [Ideal.ofBits, Ideal.ieee, -EReal.coe_mul]; norm_num
theorem at7 : Ideal.ofBits .f32 0x49E3DD50#32 = (((1866666 : ℕ) : ℝ) : EReal) := by
  simp [Ideal.ofBits, Ideal.ieee, -EReal.coe_mul]; norm_num
theorem at8 : Ideal.ofBits .f32 0x4A023554#32 = (((2133333 : ℕ) : ℝ) : EReal) := by
  simp [Ideal.ofBits, Ideal.ieee, -EReal.coe_mul]; norm_num
theorem at9 : Ideal.ofBits .f32 0x4A127C00#32 = (((2400000 : ℕ) : ℝ) : EReal) := by
  simp [Ideal.ofBits, Ideal.ieee, -EReal.coe_mul]; norm_num
theorem at10 : Ideal.ofBits .f32 0x4A22C2A8#32 = (((2666666 : ℕ) : ℝ) : EReal) := by
  simp [Ideal.ofBits, Ideal.ieee, -EReal.coe_mul]; norm_num
theorem at11 : Ideal.ofBits .f32 0x4A330954#32 = (((2933333 : ℕ) : ℝ) : EReal) := by
  simp [Ideal.ofBits, Ideal.ieee, -EReal.coe_mul]; norm_num
theorem at12 : Ideal.ofBits .f32 0x4A435000#32 = (((3200000 : ℕ) : ℝ) : EReal) := by
  simp [Ideal.ofBits, Ideal.ieee, -EReal.coe_mul]; norm_num
theorem at13 : Ideal.ofBits .f32 0x4A5396A8#32 = (((3466666 : ℕ) : ℝ) : EReal) := by
  simp [Ideal.ofBits, Ideal.ieee, -EReal.coe_mul]; norm_num
theorem at14 : Ideal.ofBits .f32 0x4A63DD54#32 = (((3733333 : ℕ) : ℝ) : EReal) := by
  simp [Ideal.ofBits, Ideal.ieee, -EReal.coe_mul]; norm_num
theorem at15 : Ideal.ofBits .f32 0x4A742400#32 = (((4000000 : ℕ) : ℝ) : EReal) := by
  simp [Ideal.ofBits, Ideal.ieee, -EReal.coe_mul]; norm_num
theorem at0 : Ideal.ofBits .f32 0x00000000#32 = (((0 : ℕ) : ℝ) : EReal) := Ideal.ofBits_zero_f32.trans (by norm_num)
theorem wide : Ideal.ofBits .f32 0x48823560#32 = (((266667 : ℕ) : ℝ) : EReal) := by
  simp [Ideal.ofBits, Ideal.ieee, -EReal.coe_mul]; norm_num

theorem lit0_real (i : Fin 16) : Ideal.ofBits .f32 (lit0 i) = ((cut i.val : ℝ) : EReal) := by
  match i with
  | 0 => exact at0
  | 1 => exact at1
  | 2 => exact at2
  | 3 => exact at3
  | 4 => exact at4
  | 5 => exact at5
  | 6 => exact at6
  | 7 => exact at7
  | 8 => exact at8
  | 9 => exact at9
  | 10 => exact at10
  | 11 => exact at11
  | 12 => exact at12
  | 13 => exact at13
  | 14 => exact at14
  | 15 => exact at15
  | ⟨n + 16, h⟩ => exact absurd h (by omega)

theorem lit1_real (i : Fin 15) : Ideal.ofBits .f32 (lit1 i) = (((cut (i.val + 1) - cut i.val : ℕ) : ℝ) : EReal) := by
  match i with
  | 0 => exact at1
  | 1 => exact wide
  | 2 => exact wide
  | 3 => exact at1
  | 4 => exact wide
  | 5 => exact wide
  | 6 => exact at1
  | 7 => exact wide
  | 8 => exact wide
  | 9 => exact at1
  | 10 => exact wide
  | 11 => exact wide
  | 12 => exact at1
  | 13 => exact wide
  | 14 => exact wide

theorem cuts_apply (i : Fin 16) : cuts (F := Ideal) (ix2 i 0) = ((cut i.val : ℝ) : EReal) := by
  refine (shapeCast_apply _ _ _ (ix1 i) ?_).trans ?_
  · rw [Shape.rowMajor_val_two, Shape.rowMajor_val_one]
    show i.val = i.val * 1 + 0
    omega
  · refine Eq.trans (congrArg (fun n => Ideal.ofBits .f32 (lit0 n)) (?_ : S16.rowMajor (ix1 i) = i)) (lit0_real i)
    exact Fin.ext (Shape.rowMajor_val_one _)

theorem widths_apply (i : Fin 15) : widths (F := Ideal) (ix2 i 0) = (((cut (i.val + 1) - cut i.val : ℕ) : ℝ) : EReal) := by
  refine (shapeCast_apply _ _ _ (ix1 i) ?_).trans ?_
  · rw [Shape.rowMajor_val_two, Shape.rowMajor_val_one]
    show i.val = i.val * 1 + 0
    omega
  · refine Eq.trans (congrArg (fun n => Ideal.ofBits .f32 (lit1 n)) (?_ : S15.rowMajor (ix1 i) = i)) (lit1_real i)
    exact Fin.ext (Shape.rowMajor_val_one _)

theorem ones : oneN (F := Ideal) = fun _ => (1 : EReal) := funext fun _ => Ideal.ofBits_one_f32

theorem col_tall (C V : ℕ → EReal) (b : Fin 1024) : col (tall (rows (F := Ideal) C V)) b = tot 4000000 (key C) V b.val := sum_tall C V b

theorem pre_tall (C : ℕ → EReal) (b : Fin 1024) :
    pre (tall (rows (F := Ideal) C (fun _ => (1 : EReal)))) b = before 4000000 1024 (key C) b.val := by
  unfold pre before
  rw [← Fin.sum_univ_eq_sum_range (fun j => tot 4000000 (key C) (fun _ => 1) j * (if j < b.val then 1 else 0)) 1024]
  exact sum_congr rfl fun j _ => by rw [col_tall]

theorem acc_tall (C X : ℕ → EReal) (i : Fin 16) :
    acc (tall (rows (F := Ideal) C (fun _ => (1 : EReal)))) (tall (rows (F := Ideal) C X)) (cuts (F := Ideal)) i
      = part 4000000 1024 (key C) X (cut i.val) := by
  unfold acc part kmean
  rw [← Fin.sum_univ_eq_sum_range (fun b => min (tot 4000000 (key C) (fun _ => 1) b)
    (max 0 (((cut i.val : ℝ) : EReal) - before 4000000 1024 (key C) b))
    * Ideal.div (tot 4000000 (key C) X b) (max (tot 4000000 (key C) (fun _ => 1) b) 1)) 1024]
  exact sum_congr rfl fun b _ => by rw [col_tall, col_tall, pre_tall, cuts_apply]

theorem result_eq (C E : ℕ → EReal) (i : S1x1.Idx) :
    result (F := Ideal) (tall (rows (F := Ideal) C (fun _ => (1 : EReal)))) (tall (rows (F := Ideal) C C)) (tall (rows (F := Ideal) C E))
        (cuts (F := Ideal)) (widths (F := Ideal)) i
      = Ideal.div (gaps cut 15 (kslice 4000000 1024 (key C) C cut) (kslice 4000000 1024 (key C) E cut)) ((15 : ℝ) : EReal) := by
  unfold result
  rw [pay1_apply]
  refine congrArg (fun x => Ideal.div x ((15 : ℝ) : EReal)) ?_
  unfold gaps kslice
  rw [← Fin.sum_univ_eq_sum_range _ 15]
  refine sum_congr rfl fun n _ => ?_
  rw [pay6_eq, subf_apply, pay7_apply, pay8_apply, pay7_apply, pay8_apply, widths_apply, acc_tall, acc_tall, acc_tall, acc_tall]
  rfl

theorem out_eq (m : (ℓ : Loc nD τ sig) → Buf (Elt Ideal) ℓ) (d : Dev nD) (i : S_.Idx) :
    out (F := Ideal) m d i = Ideal.div (gaps cut 15 (kslice 4000000 1024 (key (cN m d)) (cN m d) cut)
      (kslice 4000000 1024 (key (cN m d)) (eN m d) cut)) ((15 : ℝ) : EReal) := by
  unfold out
  rw [ones]
  exact result_eq _ _ _

end Cert.Proof.KernelValue
-- ==== Proof.RefOrder.lean ====
/-
  The reference's order: the bucket of a confidence grows with the confidence, so the order that sorts the confidences
  sorts the buckets.
-/
module

public import proofs.«01_k».proof.Proof.KernelValue
public import proofs.«01_k».proof.Proof.Gen.ReferenceIdeal
public import Idealize.ShloMosaic.Lib.SortFacts
public import Idealize.ShloMosaic.Lib.ValueIdxRank1
public import Idealize.ShloMosaic.Lib.Routing.OpsSearch
public import Idealize.ShloMosaic.Lib.ReduceAll

@[expose] public section

noncomputable section

namespace Cert.Proof.RefOrder

open Finset
open Cert.ReferenceIdeal Cert.ReferenceIdeal.Gen
open Idealize.ShloMosaic Idealize.ShloMosaic.ValueIdx
open Cert.Proof.KernelIdealHist (bucket bucketW bucket_lt)
open Cert.Proof.KernelIdealTile (atPos)
open Cert.Proof.KernelValue (key cut)
open Cert.Proof.Maths

/-- The number of elements. -/
abbrev N : ℕ := 4000000

/-! ## Buckets -/

theorem minsi_toInt (x y : BitVec 32) : (IntOp.minsi x y).toInt = min x.toInt y.toInt := by
  unfold IntOp.minsi
  by_cases h : x.slt y = true
  · rw [if_pos h]
    rw [BitVec.slt_iff_toInt_lt] at h
    omega
  · rw [if_neg h]
    rw [BitVec.slt_iff_toInt_lt] at h
    omega

theorem maxsi_toInt (x y : BitVec 32) : (IntOp.maxsi x y).toInt = max x.toInt y.toInt := by
  unfold IntOp.maxsi
  by_cases h : y.slt x = true
  · rw [if_pos h]
    rw [BitVec.slt_iff_toInt_lt] at h
    omega
  · rw [if_neg h]
    rw [BitVec.slt_iff_toInt_lt] at h
    omega

theorem clamp_comm (x : BitVec 32) : IntOp.minsi 1023#32 (IntOp.maxsi 0#32 x) = IntOp.minsi (IntOp.maxsi x 0#32) 1023#32 := by
  apply BitVec.eq_of_toInt_eq
  simp only [minsi_toInt, maxsi_toInt]
  omega

/-- A bucket's word, read signed. -/
theorem bucketW_toInt (c : EReal) : (bucketW (F := Ideal) c).toInt = (bucket (F := Ideal) c : Int) := by
  have h := bucket_lt (F := Ideal) c
  unfold bucket at h ⊢
  rw [BitVec.toInt_eq_toNat_cond, if_pos (by omega)]

theorem toIntClamped_mono (lo hi : Int) (h : lo ≤ hi) {x y : EReal} (hxy : x ≤ y) :
    Ideal.toIntClamped lo hi x ≤ Ideal.toIntClamped lo hi y := by
  induction x with
  | bot =>
    induction y with
    | bot => exact le_refl _
    | top => simpa using h
    | coe b => simp
  | top =>
    rw [top_le_iff] at hxy
    rw [hxy]
  | coe a =>
    induction y with
    | bot => simp at hxy
    | top => simp [h]
    | coe b =>
      have hab : a ≤ b := EReal.coe_le_coe_iff.mp hxy
      simp only [Ideal.toIntClamped_coe]
      have e : (if 0 ≤ a then ⌊a⌋ else ⌈a⌉) ≤ (if 0 ≤ b then ⌊b⌋ else ⌈b⌉) := by
        by_cases ha : 0 ≤ a
        · rw [if_pos ha, if_pos (ha.trans hab)]
          exact Int.floor_le_floor hab
        · rw [if_neg ha]
          by_cases hb : 0 ≤ b
          · rw [if_pos hb]
            exact (Int.ceil_le.mpr (by push_cast; linarith)).trans (Int.floor_nonneg.mpr hb)
          · rw [if_neg hb]
            exact Int.ceil_le_ceil hab
      omega

theorem toIntClamped_bounds (lo hi : Int) (h : lo ≤ hi) (x : EReal) :
    lo ≤ Ideal.toIntClamped lo hi x ∧ Ideal.toIntClamped lo hi x ≤ hi := by
  induction x with
  | bot => simpa using h
  | top => simpa using h
  | coe a =>
    simp only [Ideal.toIntClamped_coe]
    omega

theorem fptosi_toInt (x : EReal) : (Ideal.fptosi 32 x).toInt = Ideal.toIntClamped (-(2 ^ (32 - 1) : Nat)) ((2 ^ (32 - 1) : Nat) - 1) x := by
  unfold Ideal.fptosi
  obtain ⟨h1, h2⟩ := toIntClamped_bounds (-(2 ^ (32 - 1) : Nat)) ((2 ^ (32 - 1) : Nat) - 1) (by decide) x
  rw [BitVec.toInt_ofInt]
  refine Int.bmod_eq_of_le ?_ ?_
  · refine le_trans ?_ h1
    decide
  · refine lt_of_le_of_lt h2 ?_
    decide

theorem scale : Ideal.ofBits .f32 0x44800000#32 = ((1024 : ℝ) : EReal) := by
  simp [Ideal.ofBits, Ideal.ieee, -EReal.coe_mul]; norm_num

theorem bucket_mono {x y : EReal} (h : x ≤ y) : bucket (F := Ideal) x ≤ bucket (F := Ideal) y := by
  have e : x * Ideal.ofBits .f32 0x44800000#32 ≤ y * Ideal.ofBits .f32 0x44800000#32 := by
    rw [scale]
    exact mul_le_mul_of_nonneg_right h (by exact_mod_cast (by norm_num : (0:ℝ) ≤ 1024))
  have f : (Ideal.fptosi 32 (x * Ideal.ofBits .f32 0x44800000#32)).toInt ≤ (Ideal.fptosi 32 (y * Ideal.ofBits .f32 0x44800000#32)).toInt := by
    rw [fptosi_toInt, fptosi_toInt]
    exact toIntClamped_mono _ _ (by decide) e
  have g : (bucketW (F := Ideal) x).toInt ≤ (bucketW (F := Ideal) y).toInt := by
    show (IntOp.minsi (IntOp.maxsi (Ideal.fptosi 32 (x * Ideal.ofBits .f32 0x44800000#32)) 0#32) 1023#32).toInt
      ≤ (IntOp.minsi (IntOp.maxsi (Ideal.fptosi 32 (y * Ideal.ofBits .f32 0x44800000#32)) 0#32) 1023#32).toInt
    simp only [minsi_toInt, maxsi_toInt]
    omega
  rw [bucketW_toInt, bucketW_toInt] at g
  omega

/-! ## The order -/

theorem cmp_true (p : Bool) : (BitVec.ofBool p == 1#1) = p := by cases p <;> rfl

/-- The comparator of the sort asks whether the left key is the smaller. -/
theorem comparator_eq (l r : EReal × BitVec 32) :
    comparator_f32_i32_d0 (F := Ideal) l r = BitVec.ofBool (decide (l.1 < r.1)) := by
  have canon : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have h1 : Ideal.cmp .une x x = 0#1 := by simp [Ideal.cmp]
    rw [h1, select_zero, Ideal.ofBits_zero_f32]
    by_cases h : x = 0
    · have h2 : Ideal.cmp .oeq x 0 = 1#1 := by simp [Ideal.cmp, h]
      rw [h2, select_one, h]
    · have h2 : Ideal.cmp .oeq x 0 = 0#1 := by simp [Ideal.cmp, h]
      rw [h2, select_zero]
  show Ideal.cmp .olt _ _ = _
  refine (congrArg₂ (Ideal.cmp .olt) (canon l.1) (canon r.1)).trans ?_
  rfl

/-- Whether position `a` sorts strictly before position `b`. -/
def less (c : S4000000.Idx → EReal) (a b : Fin N) : Bool := decide (c (ix1 a) < c (ix1 b))

/-- The position whose element a stable sort of the confidences puts at `p`. -/
def srt (c : S4000000.Idx → EReal) (p : ℕ) : ℕ := if h : p < N then (sortedFrom (less c) ⟨p, h⟩).val else p

theorem srt_of_lt (c : S4000000.Idx → EReal) (p : Fin N) : srt c p.val = (sortedFrom (less c) p).val := dif_pos p.isLt

theorem srt_lt (c : S4000000.Idx → EReal) (p : Fin N) : srt c p.val < N := by rw [srt_of_lt]; exact (sortedFrom (less c) p).isLt

/-- An array read by position. -/
theorem atPos_val (X : S4000000.Idx → EReal) (p : Fin N) : atPos X p.val = X (ix1 p) := by
  unfold atPos
  refine congrArg X (funext fun a => ?_)
  match a with
  | ⟨0, _⟩ => exact Fin.ext (Nat.mod_eq_of_lt p.isLt)

theorem sorted (c : S4000000.Idx → EReal) : Sorted N (key (atPos c)) (srt c) where
  lt p hp := srt_lt c ⟨p, hp⟩
  inj p q hp hq h := by
    have h' : srt c (⟨p, hp⟩ : Fin N).val = srt c (⟨q, hq⟩ : Fin N).val := h
    rw [srt_of_lt, srt_of_lt] at h'
    exact congrArg Fin.val (sortedFrom_injective (less c) (Fin.ext h'))
  mono p q hpq hq := by
    rcases Nat.eq_or_lt_of_le hpq with rfl | hlt
    · exact le_refl _
    · have hp : p < N := hlt.trans hq
      have h := sortedFrom_noInversion (less c) (less c)
        (fun a b h => by
          unfold less at h ⊢
          exact decide_eq_false (not_lt_of_gt (of_decide_eq_true h)))
        (fun _ _ h => h)
        (fun a b d h1 h2 => by
          unfold less at h1 h2 ⊢
          exact decide_eq_false (not_lt.mpr ((not_lt.mp (of_decide_eq_false h2)).trans (not_lt.mp (of_decide_eq_false h1)))))
        ⟨p, hp⟩ ⟨q, hq⟩ hlt
      unfold less at h
      have hle := not_lt.mp (of_decide_eq_false h)
      show bucket (F := Ideal) (atPos c (srt c (⟨p, hp⟩ : Fin N).val)) ≤ bucket (F := Ideal) (atPos c (srt c (⟨q, hq⟩ : Fin N).val))
      rw [srt_of_lt, srt_of_lt, atPos_val, atPos_val]
      exact bucket_mono hle

theorem along_ix1 (j : S4000000.Idx) (k : Fin N) : j.along (0 : Fin 1) k = (ix1 k : S4000000.Idx) :=
  (Shape.Idx.along_rank1 j k).trans (Routing.ofFin_eq_ix1 k)

theorem before_eq (c : S4000000.Idx → EReal) (y : S4000000.Idx → BitVec 32) (j : S4000000.Idx) :
    (fun k k' : Fin N => comparator_f32_i32_d0 (F := Ideal) (c (j.along (0 : Fin 1) k), y (j.along (0 : Fin 1) k))
      (c (j.along (0 : Fin 1) k'), y (j.along (0 : Fin 1) k')) == 1#1) = less c := by
  funext k k'
  rw [comparator_eq, cmp_true, along_ix1, along_ix1]
  rfl

theorem sort_apply (c : S4000000.Idx → EReal) (y : S4000000.Idx → BitVec 32) (p : Fin N) :
    (Host.sort2 S4000000 0 (comparator_f32_i32_d0 (F := Ideal)) c y).2 (ix1 p) = y (ix1 (sortedFrom (less c) p)) := by
  unfold Host.sort2
  rw [dif_pos (show 0 < S4000000.rank from Nat.one_pos)]
  refine (congrArg (fun R => y ((ix1 p : S4000000.Idx).along (0 : Fin 1) (sortedFrom R p))) (before_eq c y (ix1 p))).trans ?_
  exact congrArg y (along_ix1 _ _)

/-- What the sort carries along: the positions in sorted order. -/
theorem order_apply (c : S4000000.Idx → EReal) (p : Fin N) :
    (Host.sort2 S4000000 0 (comparator_f32_i32_d0 (F := Ideal)) c (iotaInDim S4000000 32 0)).2 (ix1 p) = BitVec.ofNat 32 (srt c p.val) := by
  rw [sort_apply, srt_of_lt]
  rfl

end Cert.Proof.RefOrder
-- ==== Proof.RefTake.lean ====
/-
  The reference's table reads over the extended reals: the accumulating scatter as the bucket's total, the mean read back
  at each element, and the elements read in sorted order.
-/
module

public import proofs.«01_k».proof.Proof.RefOrder

@[expose] public section

noncomputable section

namespace Cert.Proof.RefTake

open Finset
open Cert.ReferenceIdeal Cert.ReferenceIdeal.Gen
open Idealize.ShloMosaic Idealize.ShloMosaic.ValueIdx
open Cert.Proof.KernelIdealHist (bucket bucketW bucket_lt)
open Cert.Proof.KernelIdealTile (atPos)
open Cert.Proof.KernelValue (key cut)
open Cert.Proof.Maths Cert.Proof.RefOrder

/-- A vector of words as a column of start indices. -/
abbrev column (w : IVec S4000000 32) : IVec S4000000x1 32 := broadcastInDim S4000000x1 ![0] bcast_S4000000_S4000000x1_0 w

theorem column_apply (w : IVec S4000000 32) (p : Fin N) (z : Fin 1) : column w (ix2 p z) = w (ix1 p) :=
  broadcastInDim_apply _ _ _ _ _ fun a => by
    match a with
    | ⟨0, _⟩ => rfl

/-! ## The scatter -/

theorem target (idx : IVec S4000000x1 32) (p : Fin N) (a : Fin 1) :
    scatter_S1024_S4000000x1_S4000000_n_0_0_1.start (ix1 p) idx a + scatter_S1024_S4000000x1_S4000000_n_0_0_1.window (ix1 p) a
      = (idx (ix2 p 0)).toInt := by
  match a with
  | ⟨0, _⟩ =>
    have h1 : scatter_S1024_S4000000x1_S4000000_n_0_0_1.start (ix1 p) idx 0 = (idx (ix2 p 0)).toInt := by
      refine (dif_pos (show (0 : Fin 1) ∈ [(0 : Fin 1)] from List.mem_singleton.mpr rfl)).trans ?_
      refine congrArg (fun i => (idx i).toInt) ?_
      funext b
      match b with
      | ⟨0, _⟩ => rfl
      | ⟨1, _⟩ => rfl
    have h2 : scatter_S1024_S4000000x1_S4000000_n_0_0_1.window (ix1 p) 0 = 0 := dif_neg (by decide)
    show scatter_S1024_S4000000x1_S4000000_n_0_0_1.start (ix1 p) idx 0 + (scatter_S1024_S4000000x1_S4000000_n_0_0_1.window (ix1 p) 0 : Int) = _
    rw [h1, h2]
    exact add_zero _

/-- An update lands on the entry its word names. -/
theorem lands (idx : IVec S4000000x1 32) (p : Fin N) (b : Fin 1024) :
    scatter_S1024_S4000000x1_S4000000_n_0_0_1.resultIdx? (ix1 p) idx = some (ix1 b) ↔ (idx (ix2 p 0)).toInt = (b.val : Int) := by
  have hb := b.isLt
  unfold ScatterDims.resultIdx?
  split
  · next h =>
    have h0 := h 0
    rw [target] at h0
    constructor
    · intro e
      have e0 : (scatter_S1024_S4000000x1_S4000000_n_0_0_1.start (ix1 p) idx 0
          + (scatter_S1024_S4000000x1_S4000000_n_0_0_1.window (ix1 p) 0 : Int)).toNat = b.val :=
        congrArg Fin.val (congrFun (Option.some.inj e) 0)
      rw [target] at e0
      omega
    · intro e
      refine congrArg some (funext fun a => Fin.ext ?_)
      show (scatter_S1024_S4000000x1_S4000000_n_0_0_1.start (ix1 p) idx a
          + (scatter_S1024_S4000000x1_S4000000_n_0_0_1.window (ix1 p) a : Int)).toNat = _
      rw [target, e]
      match a with
      | ⟨0, _⟩ => exact Int.toNat_natCast _
  · next h =>
    refine Iff.intro (fun e => by cases e) (fun e => (h fun a => ?_).elim)
    rw [target, e]
    match a with
    | ⟨0, _⟩ => exact ⟨Int.natCast_nonneg _, Int.ofNat_lt.mpr hb⟩

/-- The reference's total of a bucket. -/
abbrev totals (w : IVec S4000000 32) (V : S4000000.Idx → EReal) : S1024.Idx → EReal :=
  Host.scatterAdd (F := Ideal) (φ := .f32) scatter_S1024_S4000000x1_S4000000_n_0_0_1
    (broadcastInDim S1024 ![] bcast_S_S1024 (constant (F := Ideal) S_ .f32 0x00000000#32)) (column w) V

theorem sum_ix1 {n : ℕ} (P : (⟨1, ![n]⟩ : Shape).Idx → Prop) [DecidablePred P] (V : (⟨1, ![n]⟩ : Shape).Idx → EReal) :
    ∑ j ∈ univ.filter P, V j = ∑ p : Fin n, if P (ix1 p) then V (ix1 p) else 0 := by
  rw [sum_filter]
  exact (Equiv.sum_comp (idxEquiv1 (n := n)).symm (fun j => if P j then V j else 0)).symm

theorem scatter_sum {n K : ℕ} (d : ScatterDims ⟨1, ![K]⟩ ⟨2, ![n, 1]⟩ ⟨1, ![n]⟩) (x : (⟨1, ![K]⟩ : Shape).Idx → EReal)
    (idx : IVec ⟨2, ![n, 1]⟩ 32) (V : (⟨1, ![n]⟩ : Shape).Idx → EReal) (b : Fin K) (k : ℕ → ℕ) (X : ℕ → EReal)
    (hx : x (ix1 b) = 0) (hX : ∀ p : Fin n, V (ix1 p) = X p.val)
    (hl : ∀ p : Fin n, d.resultIdx? (ix1 p) idx = some (ix1 b) ↔ k p.val = b.val) :
    Host.scatterAdd (F := Ideal) (φ := .f32) d x idx V (ix1 b) = tot n k X b.val := by
  show x (ix1 b) + ∑ j ∈ univ.filter (fun j => d.resultIdx? j idx = some (ix1 b)), V j = _
  rw [hx, zero_add]
  refine (sum_ix1 (fun j => d.resultIdx? j idx = some (ix1 b)) V).trans ?_
  unfold tot
  rw [← Fin.sum_univ_eq_sum_range (fun p => if k p = b.val then X p else 0) n]
  exact sum_congr rfl fun p _ => if_congr (hl p) (hX p) rfl

theorem totals_apply (c V : S4000000.Idx → EReal) (w : IVec S4000000 32) (hw : ∀ p : Fin N, w (ix1 p) = bucketW (F := Ideal) (c (ix1 p)))
    (b : Fin 1024) : totals w V (ix1 b) = tot N (key (atPos c)) (atPos V) b.val := by
  refine scatter_sum _ _ _ V b (key (atPos c)) (atPos V) Ideal.ofBits_zero_f32 (fun p => (atPos_val V p).symm) fun p => ?_
  rw [lands, column_apply, hw, bucketW_toInt]
  unfold key
  rw [atPos_val]
  exact Int.natCast_inj

/-! ## The reads -/

theorem slt_zero (x : BitVec 32) (h : 0 ≤ x.toInt) : IntOp.cmpi .slt x 0#32 = 0#1 := by
  show BitVec.ofBool (x.slt 0#32) = 0#1
  have hf : x.slt 0#32 = false := Bool.eq_false_iff.mpr fun hh => by
    have := BitVec.slt_iff_toInt_lt.mp hh
    rw [show (0#32).toInt = 0 from rfl] at this
    omega
  rw [hf]; rfl

/-- A vector of words with `n` added to the negative ones. -/
abbrev wrap (n : BitVec 32) (w : IVec S4000000 32) : IVec S4000000 32 :=
  select (cmpi .slt w (broadcastInDim S4000000 ![] bcast_S_S4000000 (constantI S_ 32 0#32)))
    (addi w (broadcastInDim S4000000 ![] bcast_S_S4000000 (constantI S_ 32 n))) w

theorem wrap_apply (n : BitVec 32) (w : IVec S4000000 32) (i : S4000000.Idx) (h : 0 ≤ (w i).toInt) : wrap n w i = w i := by
  show Scalar.select (IntOp.cmpi .slt (w i) 0#32) _ (w i) = w i
  rw [slt_zero _ h, select_zero]

theorem ofNat_bucket (c : EReal) : bucketW (F := Ideal) c = BitVec.ofNat 32 (bucket (F := Ideal) c) := by
  unfold bucket
  rw [BitVec.ofNat_toNat, BitVec.setWidth_eq]

/-- The reference's mean of each element's bucket. -/
abbrev means (w : IVec S4000000 32) (V : S4000000.Idx → EReal) : S4000000.Idx → EReal :=
  Host.divf (F := Ideal) (φ := .f32)
    (Host.gather gather_S1024_S4000000x1_S4000000_n_0_n_n_0_1_1 (totals w V) (column (wrap 1024#32 w)))
    (Host.gather gather_S1024_S4000000x1_S4000000_n_0_n_n_0_1_1
      (totals w (broadcastInDim S4000000 ![] bcast_S_S4000000 (constant (F := Ideal) S_ .f32 0x3F800000#32))) (column (wrap 1024#32 w)))

theorem read_table (c : S4000000.Idx → EReal) (T : S1024.Idx → EReal) (w : IVec S4000000 32)
    (hw : ∀ p : Fin N, w (ix1 p) = bucketW (F := Ideal) (c (ix1 p))) (p : Fin N) :
    Host.gather gather_S1024_S4000000x1_S4000000_n_0_n_n_0_1_1 T (column (wrap 1024#32 w)) (ix1 p)
      = T (ix1 (⟨bucket (F := Ideal) (c (ix1 p)), bucket_lt _⟩ : Fin 1024)) := by
  refine Routing.take_ap _ rfl rfl rfl rfl T _ p (bucket_lt _) (lt_trans (bucket_lt _) (by norm_num)) ?_
  rw [column_apply, wrap_apply, hw, ofNat_bucket]
  rw [hw, bucketW_toInt]
  exact Int.natCast_nonneg _

theorem means_apply (c V : S4000000.Idx → EReal) (w : IVec S4000000 32)
    (hw : ∀ p : Fin N, w (ix1 p) = bucketW (F := Ideal) (c (ix1 p))) (p : Fin N) :
    means w V (ix1 p) = rmean N (key (atPos c)) (atPos V) (key (atPos c) p.val) := by
  have hk : key (atPos c) p.val = bucket (F := Ideal) (c (ix1 p)) := congrArg (bucket (F := Ideal)) (atPos_val c p)
  have ho : atPos (broadcastInDim S4000000 ![] bcast_S_S4000000 (constant (F := Ideal) S_ .f32 0x3F800000#32)) = fun _ => (1 : EReal) :=
    funext fun _ => Ideal.ofBits_one_f32
  rw [hk]
  unfold rmean
  refine (hostDivf_apply _ _ _).trans (congrArg₂ Ideal.div ?_ ?_)
  · rw [read_table c _ w hw, totals_apply c V w hw]
  · rw [read_table c _ w hw, totals_apply c _ w hw, ho]

/-- Whether every start index is a position. -/
abbrev inside (w : IVec S4000000x1 32) : IVec S4000000 1 :=
  Host.reduce IntOp.andi (andi (cmpi .sge w (broadcastInDim S4000000x1 ![] bcast_S_S4000000x1 (constantI S_ 32 0#32)))
    (cmpi .sle w (broadcastInDim S4000000x1 ![0, 1] bcast_S1x1_S4000000x1_0_1 (broadcastInDim S1x1 ![1] bcast_S1_S1x1_1 (constantI S1 32 3999999#32)))))
    (constantI S_ 1 1#1) reducesTo_S4000000x1_S4000000_d1 h_S_

/-- The reference's elements at the positions `w` names. -/
abbrev taken (w : IVec S4000000 32) (X : S4000000.Idx → EReal) : S4000000.Idx → EReal :=
  select (inside (column (wrap 4000000#32 w)))
    (Host.gather gather_S4000000_S4000000x1_S4000000_n_0_n_n_0_1_1 X (column (wrap 4000000#32 w)))
    (broadcastInDim S4000000 ![] bcast_S_S4000000 (constant (F := Ideal) S_ .f32 0x7FC00000#32))

theorem ofNat_toInt (n : ℕ) (h : n < N) : (BitVec.ofNat 32 n).toInt = (n : Int) := by
  have : n < 4000000 := h
  rw [BitVec.toInt_ofNat']
  exact Int.bmod_eq_of_le (by omega) (by omega)

theorem inside_apply (w : IVec S4000000x1 32) (s : ℕ → ℕ) (hs : ∀ p : Fin N, s p.val < N)
    (hw : ∀ (p : Fin N), w (ix2 p 0) = BitVec.ofNat 32 (s p.val)) (i : S4000000.Idx) : inside w i = 1#1 := by
  refine Host.reduce_andi_one _ _ _ _ _ rfl fun j => ?_
  rw [eq_ix2 j]
  have hz : ∀ z : Fin 1, w (ix2 (j 0) z) = BitVec.ofNat 32 (s (j 0).val) := fun z => by
    rw [Subsingleton.elim z 0]; exact hw (j 0)
  have e : w (ix2 (j 0) (j 1)) = BitVec.ofNat 32 (s (j 0).val) := hz (j 1)
  have hlt : s (j 0).val < N := hs (j 0)
  show IntOp.andi (IntOp.cmpi .sge (w (ix2 (j 0) (j 1))) 0#32) (IntOp.cmpi .sle (w (ix2 (j 0) (j 1))) 3999999#32) = 1#1
  rw [e]
  generalize s (j 0).val = n at hlt
  have hn := ofNat_toInt n hlt
  have h1 : IntOp.cmpi .sge (BitVec.ofNat 32 n) 0#32 = 1#1 := by
    show BitVec.ofBool ((0#32).sle (BitVec.ofNat 32 n)) = 1#1
    rw [BitVec.sle_iff_toInt_le.mpr (by rw [hn]; exact Int.natCast_nonneg n)]; rfl
  have h2 : IntOp.cmpi .sle (BitVec.ofNat 32 n) 3999999#32 = 1#1 := by
    show BitVec.ofBool ((BitVec.ofNat 32 n).sle 3999999#32) = 1#1
    rw [BitVec.sle_iff_toInt_le.mpr (by rw [hn, show (3999999#32).toInt = 3999999 from rfl]; have : n < 4000000 := hlt; omega)]; rfl
  rw [h1, h2]
  rfl

theorem taken_apply (w : IVec S4000000 32) (X : S4000000.Idx → EReal) (s : ℕ → ℕ) (hs : ∀ p : Fin N, s p.val < N)
    (hw : ∀ p : Fin N, w (ix1 p) = BitVec.ofNat 32 (s p.val)) (p : Fin N) : taken w X (ix1 p) = X (ix1 ⟨s p.val, hs p⟩) := by
  have hc : ∀ p : Fin N, column (wrap 4000000#32 w) (ix2 p 0) = BitVec.ofNat 32 (s p.val) := by
    intro p
    rw [column_apply, wrap_apply, hw]
    rw [hw, ofNat_toInt _ (hs p)]
    exact Int.natCast_nonneg _
  show Scalar.select (inside (column (wrap 4000000#32 w)) (ix1 p)) _ _ = _
  rw [inside_apply _ s hs hc, select_one]
  exact Routing.take_ap _ rfl rfl rfl rfl X _ p (hs p) (lt_trans (hs p) (by norm_num)) (hc p)

/-- The reference's buckets, as words. -/
abbrev words (c : S4000000.Idx → EReal) : IVec S4000000 32 :=
  minsi (broadcastInDim S4000000 ![] bcast_S_S4000000 (id (constantI S_ 32 1023#32)))
    (maxsi (broadcastInDim S4000000 ![] bcast_S_S4000000 (id (constantI S_ 32 0#32)))
      (fptosi (F := Ideal) (φ := .f32) 32 (mulf c (broadcastInDim S4000000 ![] bcast_S_S4000000 (constant (F := Ideal) S_ .f32 0x44800000#32)))))

theorem words_apply (c : S4000000.Idx → EReal) (p : Fin N) : words c (ix1 p) = bucketW (F := Ideal) (c (ix1 p)) := clamp_comm _

/-- The positions in sorted order, as words. -/
abbrev order (c : S4000000.Idx → EReal) : IVec S4000000 32 :=
  (Host.sort2 S4000000 0 (comparator_f32_i32_d0 (F := Ideal)) c (iotaInDim S4000000 32 0)).2

/-- The reference's data in sorted order: at each position the mean of the bucket of the element sorted there. -/
theorem ordered_apply (c V : S4000000.Idx → EReal) (p : Fin N) :
    taken (order c) (means (words c) V) (ix1 p) = rmean N (key (atPos c)) (atPos V) (key (atPos c) (srt c p.val)) := by
  rw [taken_apply (order c) _ (srt c) (srt_lt c) (order_apply c) p, means_apply c V _ (words_apply c)]

end Cert.Proof.RefTake
-- ==== Proof.RefSlices.lean ====
/-
  The reference's slices over the extended reals: the mean of a slice of an array, and fifteen of them stacked.
-/
module

public import proofs.«01_k».proof.Proof.RefTake

@[expose] public section

noncomputable section

namespace Cert.Proof.RefSlices

open Finset
open Cert.ReferenceIdeal Cert.ReferenceIdeal.Gen
open Idealize.ShloMosaic Idealize.ShloMosaic.ValueIdx
open Cert.Proof.KernelValue (cut)
open Cert.Proof.Maths Cert.Proof.RefOrder

theorem slice_sum {n L a : ℕ} (X : (⟨1, ![n]⟩ : Shape).Idx → EReal) (f : ℕ → EReal) (hX : ∀ p : Fin n, X (ix1 p) = f p.val)
    (h : (⟨1, ![n]⟩ : Shape).Slices ![a] ⟨1, ![L]⟩) (hr : (⟨1, ![L]⟩ : Shape).ReducesTo [0] S_) (j : S_.Idx) :
    Host.reduceAdd (F := Ideal) (φ := .f32) (extractStridedSlice ⟨1, ![L]⟩ ![a] X h) (constant (F := Ideal) S_ .f32 0x00000000#32) hr h_S_ j
      = ∑ p ∈ Ico a (a + L), f p := by
  have hb : a + L ≤ n := h.2 0
  refine (hostReduceAdd_apply _ _ _ _ _).trans ((Ideal.hostReduceAdd_total hr (fun b => b.elim0) _ _ _).trans ?_)
  show Ideal.ofBits .f32 0x00000000#32 + _ = _
  rw [Ideal.ofBits_zero_f32, zero_add, sum_Ico_eq_sum_range, Nat.add_sub_cancel_left,
    ← Fin.sum_univ_eq_sum_range (fun q => f (a + q)) L]
  refine (Equiv.sum_comp (idxEquiv1 (n := L)).symm _).symm.trans ?_
  refine sum_congr rfl fun q _ => ?_
  have hq : a + q.val < n := by have := q.isLt; omega
  refine (extractStridedSlice_apply _ _ _ _ (ix1 ⟨a + q.val, hq⟩) fun b => ?_).trans (hX ⟨a + q.val, hq⟩)
  match b with
  | ⟨0, _⟩ => rfl

/-- The mean of the `i`-th slice. -/
def smean (f : ℕ → EReal) (i : ℕ) : EReal := Ideal.div (∑ p ∈ Ico (cut i) (cut (i + 1)), f p) (((cut (i + 1) - cut i : ℕ) : ℝ) : EReal)

theorem mean_apply {n L a : ℕ} (X : (⟨1, ![n]⟩ : Shape).Idx → EReal) (f : ℕ → EReal) (hX : ∀ p : Fin n, X (ix1 p) = f p.val)
    (h : (⟨1, ![n]⟩ : Shape).Slices ![a] ⟨1, ![L]⟩) (hr : (⟨1, ![L]⟩ : Shape).ReducesTo [0] S_) (w : BitVec 32) (i : ℕ)
    (ha : a = cut i) (hL : a + L = cut (i + 1)) (hw : Ideal.ofBits .f32 w = (((cut (i + 1) - cut i : ℕ) : ℝ) : EReal)) (j : S_.Idx) :
    Host.divf (F := Ideal) (φ := .f32) (Host.reduceAdd (F := Ideal) (φ := .f32) (extractStridedSlice ⟨1, ![L]⟩ ![a] X h)
      (constant (F := Ideal) S_ .f32 0x00000000#32) hr h_S_) (constant (F := Ideal) S_ .f32 w) j = smean f i := by
  refine (hostDivf_apply _ _ _).trans (congrArg₂ Ideal.div ?_ hw)
  rw [slice_sum X f hX h hr j, hL, ha]

theorem piece {n L a : ℕ} (X : (⟨1, ![n]⟩ : Shape).Idx → EReal) (f : ℕ → EReal) (hX : ∀ p : Fin n, X (ix1 p) = f p.val)
    (h : (⟨1, ![n]⟩ : Shape).Slices ![a] ⟨1, ![L]⟩) (hr : (⟨1, ![L]⟩ : Shape).ReducesTo [0] S_) (w : BitVec 32) (i : ℕ)
    (ha : a = cut i) (hL : a + L = cut (i + 1)) (hw : Ideal.ofBits .f32 w = (((cut (i + 1) - cut i : ℕ) : ℝ) : EReal)) (j : S1.Idx) :
    broadcastInDim S1 ![] bcast_S_S1 (Host.divf (F := Ideal) (φ := .f32) (Host.reduceAdd (F := Ideal) (φ := .f32)
      (extractStridedSlice ⟨1, ![L]⟩ ![a] X h) (constant (F := Ideal) S_ .f32 0x00000000#32) hr h_S_) (constant (F := Ideal) S_ .f32 w)) j
      = smean f i :=
  (broadcastInDim_scalar_apply _ _ _).trans (mean_apply X f hX h hr w i ha hL hw _)

theorem rest {n L a : ℕ} (X : (⟨1, ![n]⟩ : Shape).Idx → EReal) (f : ℕ → EReal) (hX : ∀ p : Fin n, X (ix1 p) = f p.val)
    (h : (⟨1, ![n]⟩ : Shape).Slices ![a] ⟨1, ![L]⟩) (hr : (⟨1, ![L]⟩ : Shape).ReducesTo [0] S_) (w : BitVec 32) (i : ℕ)
    (ha : a = cut i) (hL : a + L = cut (i + 1)) (hw : Ideal.ofBits .f32 w = (((cut (i + 1) - cut i : ℕ) : ℝ) : EReal)) (j : S1.Idx) :
    broadcastInDim S1 ![] bcast_S_S1 (subf (F := Ideal) (φ := .f32) (constant (F := Ideal) S_ .f32 0x3F800000#32)
      (Host.divf (F := Ideal) (φ := .f32) (Host.reduceAdd (F := Ideal) (φ := .f32)
        (extractStridedSlice ⟨1, ![L]⟩ ![a] X h) (constant (F := Ideal) S_ .f32 0x00000000#32) hr h_S_) (constant (F := Ideal) S_ .f32 w))) j
      = 1 - smean f i :=
  (broadcastInDim_scalar_apply _ _ _).trans
    (congrArg₂ (fun x y : EReal => x - y) Ideal.ofBits_one_f32 (mean_apply X f hX h hr w i ha hL hw _))

/-- Fifteen numbers laid end to end. -/
theorem stack (x0 x1 x2 x3 x4 x5 x6 x7 x8 x9 x10 x11 x12 x13 x14 : S1.Idx → EReal) (i : Fin 15) :
    concatenate S15 0 [⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩, ⟨S1, x10⟩, ⟨S1, x11⟩,
        ⟨S1, x12⟩, ⟨S1, x13⟩, ⟨S1, x14⟩] concatenates_S1_S1_S1_S1_S1_S1_S1_S1_S1_S1_S1_S1_S1_S1_S1_S15_d0 (ix1 i)
      = (![x0, x1, x2, x3, x4, x5, x6, x7, x8, x9, x10, x11, x12, x13, x14] : Fin 15 → S1.Idx → EReal) i (ix1 0) :=
  concatenate_ofFn_unit_apply (t := S15) (s₁ := S1) 0
    (![x0, x1, x2, x3, x4, x5, x6, x7, x8, x9, x10, x11, x12, x13, x14] : Fin 15 → S1.Idx → EReal)
    concatenates_S1_S1_S1_S1_S1_S1_S1_S1_S1_S1_S1_S1_S1_S1_S1_S15_d0 rfl rfl (ix1 i) i rfl (ix1 0)
    (fun b hb => (hb (Subsingleton.elim (α := Fin 1) _ _)).elim)

/-- The mean of fifteen gaps. -/
theorem total (x y : S15.Idx → EReal) (j : S_.Idx) :
    Host.divf (F := Ideal) (φ := .f32) (Host.reduceAdd (F := Ideal) (φ := .f32) (Host.absf (F := Ideal) (φ := .f32) (subf (F := Ideal) (φ := .f32) x y))
      (constant (F := Ideal) S_ .f32 0x00000000#32) reducesTo_S15_S_d0 h_S_) (constant (F := Ideal) S_ .f32 0x41700000#32) j
      = Ideal.div (∑ i : Fin 15, max (x (ix1 i) - y (ix1 i)) (-(x (ix1 i) - y (ix1 i)))) ((15 : ℝ) : EReal) := by
  refine (hostDivf_apply _ _ _).trans (congrArg₂ Ideal.div ?_ KernelTail.ofBits_fifteen)
  refine (hostReduceAdd_apply _ _ _ _ _).trans ((Ideal.hostReduceAdd_total reducesTo_S15_S_d0 (fun b => b.elim0) _ _ _).trans ?_)
  show Ideal.ofBits .f32 0x00000000#32 + _ = _
  rw [Ideal.ofBits_zero_f32, zero_add]
  exact (Equiv.sum_comp (idxEquiv1 (n := 15)).symm _).symm

end Cert.Proof.RefSlices
-- ==== Proof.RefValue.lean ====
/-
  The reference's result over the extended reals: the mean gap of the slices of the bucket means in sorted order.
-/
module

public import proofs.«01_k».proof.Proof.RefSlices
public import proofs.«01_k».proof.Proof.Gen.ReferenceIdeal.Run

@[expose] public section

noncomputable section

namespace Cert.Proof.RefValue

open Finset
open Cert.ReferenceIdeal Cert.ReferenceIdeal.Gen Cert.ReferenceIdeal.Value
open Idealize.ShloMosaic Idealize.ShloMosaic.ValueIdx
open Cert.Proof.KernelIdealTile (atPos)
open Cert.Proof.KernelValue (key cut)
open Cert.Proof.Maths Cert.Proof.RefOrder Cert.Proof.RefTake Cert.Proof.RefSlices

variable (V0 : Valuation τ sig (Elt Ideal))

/-- The confidences and the errors. -/
abbrev conf : S4000000.Idx → EReal := V0 (Proc.devRef .tc main_arg0)
abbrev errs : S4000000.Idx → EReal := V0 (Proc.devRef .tc main_arg1)

/-- The reference's data in sorted order, by position. -/
def row (c V : S4000000.Idx → EReal) (p : ℕ) : EReal := rmean N (key (atPos c)) (atPos V) (key (atPos c) (srt c p))

theorem v53_apply (p : Fin N) : res_main_v53 (F := Ideal) V0 (ix1 p) = row (conf V0) (conf V0) p.val := ordered_apply (conf V0) (conf V0) p

theorem v54_apply (p : Fin N) : res_main_v54 (F := Ideal) V0 (ix1 p) = row (conf V0) (errs V0) p.val := ordered_apply (conf V0) (errs V0) p

theorem v175_apply (X : S4000000.Idx → EReal) (f : ℕ → EReal) (hX : ∀ p : Fin N, X (ix1 p) = f p.val)
    (h53 : res_main_v53 (F := Ideal) V0 = X) (i : Fin 15) : res_main_v175 (F := Ideal) V0 (ix1 i) = smean f i.val := by
  unfold res_main_v175
  rw [h53]
  refine (stack _ _ _ _ _ _ _ _ _ _ _ _ _ _ _ i).trans ?_
  match i with
  | 0 => exact piece _ _ hX _ _ _ 0 rfl rfl KernelValue.at1 _
  | 1 => exact piece _ _ hX _ _ _ 1 rfl rfl KernelValue.wide _
  | 2 => exact piece _ _ hX _ _ _ 2 rfl rfl KernelValue.wide _
  | 3 => exact piece _ _ hX _ _ _ 3 rfl rfl KernelValue.at1 _
  | 4 => exact piece _ _ hX _ _ _ 4 rfl rfl KernelValue.wide _
  | 5 => exact piece _ _ hX _ _ _ 5 rfl rfl KernelValue.wide _
  | 6 => exact piece _ _ hX _ _ _ 6 rfl rfl KernelValue.at1 _
  | 7 => exact piece _ _ hX _ _ _ 7 rfl rfl KernelValue.wide _
  | 8 => exact piece _ _ hX _ _ _ 8 rfl rfl KernelValue.wide _
  | 9 => exact piece _ _ hX _ _ _ 9 rfl rfl KernelValue.at1 _
  | 10 => exact piece _ _ hX _ _ _ 10 rfl rfl KernelValue.wide _
  | 11 => exact piece _ _ hX _ _ _ 11 rfl rfl KernelValue.wide _
  | 12 => exact piece _ _ hX _ _ _ 12 rfl rfl KernelValue.at1 _
  | 13 => exact piece _ _ hX _ _ _ 13 rfl rfl KernelValue.wide _
  | 14 => exact piece _ _ hX _ _ _ 14 rfl rfl KernelValue.wide _

theorem v191_apply (X : S4000000.Idx → EReal) (f : ℕ → EReal) (hX : ∀ p : Fin N, X (ix1 p) = f p.val)
    (h54 : res_main_v54 (F := Ideal) V0 = X) (i : Fin 15) : res_main_v191 (F := Ideal) V0 (ix1 i) = 1 - smean f i.val := by
  unfold res_main_v191
  rw [h54]
  refine (stack _ _ _ _ _ _ _ _ _ _ _ _ _ _ _ i).trans ?_
  match i with
  | 0 => exact rest _ _ hX _ _ _ 0 rfl rfl KernelValue.at1 _
  | 1 => exact rest _ _ hX _ _ _ 1 rfl rfl KernelValue.wide _
  | 2 => exact rest _ _ hX _ _ _ 2 rfl rfl KernelValue.wide _
  | 3 => exact rest _ _ hX _ _ _ 3 rfl rfl KernelValue.at1 _
  | 4 => exact rest _ _ hX _ _ _ 4 rfl rfl KernelValue.wide _
  | 5 => exact rest _ _ hX _ _ _ 5 rfl rfl KernelValue.wide _
  | 6 => exact rest _ _ hX _ _ _ 6 rfl rfl KernelValue.at1 _
  | 7 => exact rest _ _ hX _ _ _ 7 rfl rfl KernelValue.wide _
  | 8 => exact rest _ _ hX _ _ _ 8 rfl rfl KernelValue.wide _
  | 9 => exact rest _ _ hX _ _ _ 9 rfl rfl KernelValue.at1 _
  | 10 => exact rest _ _ hX _ _ _ 10 rfl rfl KernelValue.wide _
  | 11 => exact rest _ _ hX _ _ _ 11 rfl rfl KernelValue.wide _
  | 12 => exact rest _ _ hX _ _ _ 12 rfl rfl KernelValue.at1 _
  | 13 => exact rest _ _ hX _ _ _ 13 rfl rfl KernelValue.wide _
  | 14 => exact rest _ _ hX _ _ _ 14 rfl rfl KernelValue.wide _

theorem result_eq (j : S_.Idx) :
    Host.divf (F := Ideal) (φ := .f32) (Host.reduceAdd (F := Ideal) (φ := .f32) (Host.absf (F := Ideal) (φ := .f32)
        (subf (F := Ideal) (φ := .f32) (res_main_v175 (F := Ideal) V0) (res_main_v191 (F := Ideal) V0)))
      (constant (F := Ideal) S_ .f32 0x00000000#32) reducesTo_S15_S_d0 h_S_) (constant (F := Ideal) S_ .f32 0x41700000#32) j
      = Ideal.div (gaps cut 15 (rslice N (key (atPos (conf V0))) (srt (conf V0)) (atPos (conf V0)) cut)
          (rslice N (key (atPos (conf V0))) (srt (conf V0)) (atPos (errs V0)) cut)) ((15 : ℝ) : EReal) := by
  refine (total _ _ j).trans (congrArg (fun x => Ideal.div x ((15 : ℝ) : EReal)) ?_)
  unfold gaps
  rw [← Fin.sum_univ_eq_sum_range _ 15]
  refine sum_congr rfl fun i _ => ?_
  rw [v175_apply V0 _ _ (v53_apply V0) rfl i, v191_apply V0 _ _ (v54_apply V0) rfl i]
  rfl

end Cert.Proof.RefValue
-- ==== Proof.Algebraic.lean ====
/-
  Over the extended reals the kernel and the reference end with equal results.
-/
module

public import proofs.«01_k».proof.Proof.RefValue

@[expose] public section

noncomputable section

namespace Cert.Proof

open Idealize.ShloMosaic Idealize.SL.Sem
open Cert.Proof.KernelValue (cut key)
open Cert.Proof.KernelIdealTile (atPos)

attribute [local instance] Cert.KernelIdeal.Gen.facts Cert.ReferenceIdeal.Gen.facts

/-- The kernel's value is the reference's, for any data. -/
theorem gaps_agree (c e : Cert.ReferenceIdeal.S4000000.Idx → EReal) :
    Maths.gaps cut 15 (Maths.kslice RefOrder.N 1024 (key (atPos c)) (atPos c) cut) (Maths.kslice RefOrder.N 1024 (key (atPos c)) (atPos e) cut)
      = Maths.gaps cut 15 (Maths.rslice RefOrder.N (key (atPos c)) (RefOrder.srt c) (atPos c) cut)
          (Maths.rslice RefOrder.N (key (atPos c)) (RefOrder.srt c) (atPos e) cut) :=
  Maths.gaps_eq (RefOrder.sorted c) (fun _ => KernelIdealHist.bucket_lt _) rfl (fun i _ => by unfold cut; omega) rfl (by decide) _ _

theorem algebraic : Cert.algebraic_KernelIdeal_ReferenceIdeal := fun m g m' g' _ h => by
  refine ⟨fun c => KernelIdealLaunch.out (F := Ideal) m c, ?_, ?_⟩
  · exact (θ_run Cert.KernelIdeal.defs _ _).mono (fun _ h => h.1) (KernelIdealLaunch.run_main (F := Ideal) m g)
  · refine (θ_run Cert.ReferenceIdeal.defs _ _).mono (fun r hr c => ⟨(hr c).1.trans ?_, (hr c).2⟩)
      (Cert.ReferenceIdeal.Value.run (F := Ideal) m' g')
    funext j
    refine (RefValue.result_eq _ j).trans ?_
    refine Eq.trans ?_ (KernelValue.out_eq m c j).symm
    refine congrArg (fun x => Ideal.div x ((15 : ℝ) : EReal)) ?_
    have hc : RefValue.conf (StableHlo.launchContents m' c) = m (KernelIdealTile.cLoc c) := (h c).1
    have he : RefValue.errs (StableHlo.launchContents m' c) = m (KernelIdealTile.eLoc c) := (h c).2
    rw [hc, he]
    exact (gaps_agree _ _).symm

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
